-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x8192 : Shape := ⟨3, ![2, 6144, 8192]⟩
abbrev S1408x4096 : Shape := ⟨2, ![1408, 4096]⟩
abbrev S11x32 : Shape := ⟨2, ![11, 32]⟩
abbrev S12288x8192 : Shape := ⟨2, ![12288, 8192]⟩
abbrev S12288x1408 : Shape := ⟨2, ![12288, 1408]⟩
abbrev S12288x4096 : Shape := ⟨2, ![12288, 4096]⟩
abbrev S12288x32 : Shape := ⟨2, ![12288, 32]⟩
abbrev S256x8192 : Shape := ⟨2, ![256, 8192]⟩
abbrev S256x1408 : Shape := ⟨2, ![256, 1408]⟩
abbrev S256x4096 : Shape := ⟨2, ![256, 4096]⟩
abbrev S256x32 : Shape := ⟨2, ![256, 32]⟩
abbrev S256x256 : Shape := ⟨2, ![256, 256]⟩
abbrev S16x128 : Shape := ⟨2, ![16, 128]⟩
abbrev S1x1 : Shape := ⟨2, ![1, 1]⟩
abbrev S128x128 : Shape := ⟨2, ![128, 128]⟩
abbrev S16 : Shape := ⟨1, ![16]⟩
abbrev S16x1 : Shape := ⟨2, ![16, 1]⟩
abbrev S32x128 : Shape := ⟨2, ![32, 128]⟩

abbrev nBuf : Space → Nat
  | .hbm => 7
  | .vmem => 13
  | .smem => 1
  | _ => 0

abbrev bufTy : (tb : Table) → Fin (tcTables nBuf tb) → BufTy
  | .hbm, ⟨0, _⟩ => ⟨S2x6144x8192, .bf16⟩
  | .hbm, ⟨1, _⟩ => ⟨S1408x4096, .fp8e4m3⟩
  | .hbm, ⟨2, _⟩ => ⟨S11x32, .f32⟩
  | .hbm, ⟨3, _⟩ => ⟨S12288x8192, .bf16⟩
  | .hbm, ⟨4, _⟩ => ⟨S12288x1408, .bf16⟩
  | .hbm, ⟨5, _⟩ => ⟨S12288x4096, .fp8e4m3⟩
  | .hbm, ⟨6, _⟩ => ⟨S12288x32, .f32⟩
  | .local _ .vmem, ⟨0, _⟩ => ⟨S256x8192, .bf16⟩
  | .local _ .vmem, ⟨1, _⟩ => ⟨S256x8192, .bf16⟩
  | .local _ .vmem, ⟨2, _⟩ => ⟨S1408x4096, .fp8e4m3⟩
  | .local _ .vmem, ⟨3, _⟩ => ⟨S256x1408, .bf16⟩
  | .local _ .vmem, ⟨4, _⟩ => ⟨S256x1408, .bf16⟩
  | .local _ .vmem, ⟨5, _⟩ => ⟨S256x4096, .fp8e4m3⟩
  | .local _ .vmem, ⟨6, _⟩ => ⟨S256x4096, .fp8e4m3⟩
  | .local _ .vmem, ⟨7, _⟩ => ⟨S256x32, .f32⟩
  | .local _ .vmem, ⟨8, _⟩ => ⟨S256x32, .f32⟩
  | .local _ .vmem, ⟨9, _⟩ => ⟨S1408x4096, .bf16⟩
  | .local _ .vmem, ⟨10, _⟩ => ⟨S256x4096, .bf16⟩
  | .local _ .vmem, ⟨11, _⟩ => ⟨S256x256, .f32⟩
  | .local _ .vmem, ⟨12, _⟩ => ⟨S16x128, .f32⟩
  | .local _ .smem, ⟨0, _⟩ => ⟨S11x32, .f32⟩
  | _, _ => ⟨S2x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9613 : BitVec 32 := 0#32
  let c11_i32 : BitVec 32 := 11#32
  let v21414 : BitVec 32 := Scalar.addi c0_i32_9613 c11_i32
  let c1_i32_9614 : BitVec 32 := 1#32
  ⟨c0_i32_9613, v21414, c1_i32_9614⟩
def k0_mult1 (k0_t1 : Fin k0_t1_loop.trips) : BitVec 32 :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  v21415
def k0_off1 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21417 : Index := Scalar.indexCast arg11
  let c0_9616 : Index := 0#32
  ![v21417.toNat, 0]
def k0_off2 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21421 : Index := Scalar.indexCast v21416
  let c0_9617 : Index := 0#32
  ![v21421.toNat, 0]
def k0_off3 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21429 : Index := Scalar.indexCast arg11
  let c1_9619 : Index := 1#32
  ![v21429.toNat, 1]
def k0_off4 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21433 : Index := Scalar.indexCast v21416
  let c128_9620 : Index := 128#32
  ![v21433.toNat, 128]
def k0_off5 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21441 : Index := Scalar.indexCast arg11
  let c2_9622 : Index := 2#32
  ![v21441.toNat, 2]
def k0_off6 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21445 : Index := Scalar.indexCast v21416
  let c256_9623 : Index := 256#32
  ![v21445.toNat, 256]
def k0_off7 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21453 : Index := Scalar.indexCast arg11
  let c3_9625 : Index := 3#32
  ![v21453.toNat, 3]
def k0_off8 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21457 : Index := Scalar.indexCast v21416
  let c384_9626 : Index := 384#32
  ![v21457.toNat, 384]
def k0_off9 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21465 : Index := Scalar.indexCast arg11
  let c4_9628 : Index := 4#32
  ![v21465.toNat, 4]
def k0_off10 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21469 : Index := Scalar.indexCast v21416
  let c512_9629 : Index := 512#32
  ![v21469.toNat, 512]
def k0_off11 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21477 : Index := Scalar.indexCast arg11
  let c5_9631 : Index := 5#32
  ![v21477.toNat, 5]
def k0_off12 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21481 : Index := Scalar.indexCast v21416
  let c640_9632 : Index := 640#32
  ![v21481.toNat, 640]
def k0_off13 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21489 : Index := Scalar.indexCast arg11
  let c6_9634 : Index := 6#32
  ![v21489.toNat, 6]
def k0_off14 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21493 : Index := Scalar.indexCast v21416
  let c768_9635 : Index := 768#32
  ![v21493.toNat, 768]
def k0_off15 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21501 : Index := Scalar.indexCast arg11
  let c7_9637 : Index := 7#32
  ![v21501.toNat, 7]
def k0_off16 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21505 : Index := Scalar.indexCast v21416
  let c896_9638 : Index := 896#32
  ![v21505.toNat, 896]
def k0_off17 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21513 : Index := Scalar.indexCast arg11
  let c8_9640 : Index := 8#32
  ![v21513.toNat, 8]
def k0_off18 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21517 : Index := Scalar.indexCast v21416
  let c1024_9641 : Index := 1024#32
  ![v21517.toNat, 1024]
def k0_off19 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21525 : Index := Scalar.indexCast arg11
  let c9_9643 : Index := 9#32
  ![v21525.toNat, 9]
def k0_off20 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21529 : Index := Scalar.indexCast v21416
  let c1152_9644 : Index := 1152#32
  ![v21529.toNat, 1152]
def k0_off21 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21537 : Index := Scalar.indexCast arg11
  let c10_9646 : Index := 10#32
  ![v21537.toNat, 10]
def k0_off22 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21541 : Index := Scalar.indexCast v21416
  let c1280_9647 : Index := 1280#32
  ![v21541.toNat, 1280]
def k0_off23 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21549 : Index := Scalar.indexCast arg11
  let c11_9649 : Index := 11#32
  ![v21549.toNat, 11]
def k0_off24 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21553 : Index := Scalar.indexCast v21416
  let c1408_9650 : Index := 1408#32
  ![v21553.toNat, 1408]
def k0_off25 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21561 : Index := Scalar.indexCast arg11
  let c12_9652 : Index := 12#32
  ![v21561.toNat, 12]
def k0_off26 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21565 : Index := Scalar.indexCast v21416
  let c1536_9653 : Index := 1536#32
  ![v21565.toNat, 1536]
def k0_off27 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21573 : Index := Scalar.indexCast arg11
  let c13_9655 : Index := 13#32
  ![v21573.toNat, 13]
def k0_off28 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21577 : Index := Scalar.indexCast v21416
  let c1664_9656 : Index := 1664#32
  ![v21577.toNat, 1664]
def k0_off29 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21585 : Index := Scalar.indexCast arg11
  let c14_9658 : Index := 14#32
  ![v21585.toNat, 14]
def k0_off30 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21589 : Index := Scalar.indexCast v21416
  let c1792_9659 : Index := 1792#32
  ![v21589.toNat, 1792]
def k0_off31 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21597 : Index := Scalar.indexCast arg11
  let c15_9661 : Index := 15#32
  ![v21597.toNat, 15]
def k0_off32 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21601 : Index := Scalar.indexCast v21416
  let c1920_9662 : Index := 1920#32
  ![v21601.toNat, 1920]
def k0_off33 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21609 : Index := Scalar.indexCast arg11
  let c16_9664 : Index := 16#32
  ![v21609.toNat, 16]
def k0_off34 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21613 : Index := Scalar.indexCast v21416
  let c2048_9665 : Index := 2048#32
  ![v21613.toNat, 2048]
def k0_off35 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21621 : Index := Scalar.indexCast arg11
  let c17_9667 : Index := 17#32
  ![v21621.toNat, 17]
def k0_off36 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21625 : Index := Scalar.indexCast v21416
  let c2176_9668 : Index := 2176#32
  ![v21625.toNat, 2176]
def k0_off37 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21633 : Index := Scalar.indexCast arg11
  let c18_9670 : Index := 18#32
  ![v21633.toNat, 18]
def k0_off38 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21637 : Index := Scalar.indexCast v21416
  let c2304_9671 : Index := 2304#32
  ![v21637.toNat, 2304]
def k0_off39 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21645 : Index := Scalar.indexCast arg11
  let c19_9673 : Index := 19#32
  ![v21645.toNat, 19]
def k0_off40 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21649 : Index := Scalar.indexCast v21416
  let c2432_9674 : Index := 2432#32
  ![v21649.toNat, 2432]
def k0_off41 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21657 : Index := Scalar.indexCast arg11
  let c20_9676 : Index := 20#32
  ![v21657.toNat, 20]
def k0_off42 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21661 : Index := Scalar.indexCast v21416
  let c2560_9677 : Index := 2560#32
  ![v21661.toNat, 2560]
def k0_off43 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21669 : Index := Scalar.indexCast arg11
  let c21_9679 : Index := 21#32
  ![v21669.toNat, 21]
def k0_off44 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21673 : Index := Scalar.indexCast v21416
  let c2688_9680 : Index := 2688#32
  ![v21673.toNat, 2688]
def k0_off45 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21681 : Index := Scalar.indexCast arg11
  let c22_9682 : Index := 22#32
  ![v21681.toNat, 22]
def k0_off46 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21685 : Index := Scalar.indexCast v21416
  let c2816_9683 : Index := 2816#32
  ![v21685.toNat, 2816]
def k0_off47 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21693 : Index := Scalar.indexCast arg11
  let c23_9685 : Index := 23#32
  ![v21693.toNat, 23]
def k0_off48 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21697 : Index := Scalar.indexCast v21416
  let c2944_9686 : Index := 2944#32
  ![v21697.toNat, 2944]
def k0_off49 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21705 : Index := Scalar.indexCast arg11
  let c24_9688 : Index := 24#32
  ![v21705.toNat, 24]
def k0_off50 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21709 : Index := Scalar.indexCast v21416
  let c3072_9689 : Index := 3072#32
  ![v21709.toNat, 3072]
def k0_off51 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21717 : Index := Scalar.indexCast arg11
  let c25_9691 : Index := 25#32
  ![v21717.toNat, 25]
def k0_off52 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21721 : Index := Scalar.indexCast v21416
  let c3200_9692 : Index := 3200#32
  ![v21721.toNat, 3200]
def k0_off53 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21729 : Index := Scalar.indexCast arg11
  let c26_9694 : Index := 26#32
  ![v21729.toNat, 26]
def k0_off54 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21733 : Index := Scalar.indexCast v21416
  let c3328_9695 : Index := 3328#32
  ![v21733.toNat, 3328]
def k0_off55 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21741 : Index := Scalar.indexCast arg11
  let c27_9697 : Index := 27#32
  ![v21741.toNat, 27]
def k0_off56 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21745 : Index := Scalar.indexCast v21416
  let c3456_9698 : Index := 3456#32
  ![v21745.toNat, 3456]
def k0_off57 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21753 : Index := Scalar.indexCast arg11
  let c28_9700 : Index := 28#32
  ![v21753.toNat, 28]
def k0_off58 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21757 : Index := Scalar.indexCast v21416
  let c3584_9701 : Index := 3584#32
  ![v21757.toNat, 3584]
def k0_off59 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21765 : Index := Scalar.indexCast arg11
  let c29_9703 : Index := 29#32
  ![v21765.toNat, 29]
def k0_off60 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21769 : Index := Scalar.indexCast v21416
  let c3712_9704 : Index := 3712#32
  ![v21769.toNat, 3712]
def k0_off61 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21777 : Index := Scalar.indexCast arg11
  let c30_9706 : Index := 30#32
  ![v21777.toNat, 30]
def k0_off62 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21781 : Index := Scalar.indexCast v21416
  let c3840_9707 : Index := 3840#32
  ![v21781.toNat, 3840]
def k0_off63 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let v21789 : Index := Scalar.indexCast arg11
  let c31_9709 : Index := 31#32
  ![v21789.toNat, 31]
def k0_off64 (k0_t1 : Fin k0_t1_loop.trips) : Fin 2 → Nat :=
  let c0_i32_9613 : BitVec 32 := 0#32
  let c1_i32_9614 : BitVec 32 := 1#32
  let arg11 : BitVec 32 := Scf.iv c0_i32_9613 c1_i32_9614 k0_t1
  let c128_i32 : BitVec 32 := 128#32
  let v21415 : BitVec 32 := Scalar.muli arg11 c128_i32
  let v21416 : BitVec 32 := v21415
  let v21793 : Index := Scalar.indexCast v21416
  let c3968_9710 : Index := 3968#32
  ![v21793.toNat, 3968]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S11x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S2x6144x8192 : Shape := ⟨3, ![2, 6144, 8192]⟩
abbrev S1408x4096 : Shape := ⟨2, ![1408, 4096]⟩
abbrev S11x32 : Shape := ⟨2, ![11, 32]⟩
abbrev S12288x8192 : Shape := ⟨2, ![12288, 8192]⟩
abbrev S12288x1408 : Shape := ⟨2, ![12288, 1408]⟩
abbrev S12288x4096 : Shape := ⟨2, ![12288, 4096]⟩
abbrev S12288x32 : Shape := ⟨2, ![12288, 32]⟩
abbrev S12288x32x128 : Shape := ⟨3, ![12288, 32, 128]⟩
abbrev S12288x32x1 : Shape := ⟨3, ![12288, 32, 1]⟩
abbrev S11x128x32x128 : Shape := ⟨4, ![11, 128, 32, 128]⟩
abbrev S11x1x32x1 : Shape := ⟨4, ![11, 1, 32, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x6144x8192, .bf16⟩
  | .hbm, ⟨1, _⟩ => ⟨S1408x4096, .fp8e4m3⟩
  | .hbm, ⟨2, _⟩ => ⟨S11x32, .f32⟩
  | .hbm, ⟨3, _⟩ => ⟨S12288x8192, .bf16⟩
  | .hbm, ⟨4, _⟩ => ⟨S12288x1408, .bf16⟩
  | .hbm, ⟨5, _⟩ => ⟨S12288x4096, .fp8e4m3⟩
  | .hbm, ⟨6, _⟩ => ⟨S12288x32, .f32⟩
  | .local _ .vmem, ⟨0, _⟩ => ⟨S12288x8192, .bf16⟩
  | .local _ .vmem, ⟨1, _⟩ => ⟨S1408x4096, .fp8e4m3⟩
  | .local _ .vmem, ⟨2, _⟩ => ⟨S11x32, .f32⟩
  | .local _ .vmem, ⟨3, _⟩ => ⟨S12288x1408, .bf16⟩
  | .local _ .vmem, ⟨4, _⟩ => ⟨S12288x4096, .fp8e4m3⟩
  | .local _ .vmem, ⟨5, _⟩ => ⟨S12288x32, .f32⟩
  | _, _ => ⟨S2x6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S12288x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1408x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Model.lean ====
/-
  The kernel's body written as loops: what the printed program states as some thirty thousand statements in a row is,
  here, sixteen chunks of thirty-two gated blocks and sixteen quantised blocks each, over any buffers. A step takes the
  program that follows it, so that the sequence is one term and its unfolding is the printed text.
-/
module

public import Idealize.ShloMosaic.Lib.Pipeline
public import Idealize.ShloMosaic.Lib.Affine
public import Idealize.ShloMosaic.Lib.Scf
public import Idealize.ShloMosaic.Lib.Sig
public import Idealize.ShloMosaic.PureOps

@[expose] public section

noncomputable section

namespace Cert.Model

open Idealize.ShloMosaic Idealize.SL.Sem

/-! ## Shapes -/

abbrev S1408x4096 : Shape := ⟨2, ![1408, 4096]⟩
abbrev S11x32 : Shape := ⟨2, ![11, 32]⟩
abbrev S256x8192 : Shape := ⟨2, ![256, 8192]⟩
abbrev S256x1408 : Shape := ⟨2, ![256, 1408]⟩
abbrev S256x4096 : Shape := ⟨2, ![256, 4096]⟩
abbrev S256x32 : Shape := ⟨2, ![256, 32]⟩
abbrev S256x256 : Shape := ⟨2, ![256, 256]⟩
abbrev S16x128 : Shape := ⟨2, ![16, 128]⟩
abbrev S1x1 : Shape := ⟨2, ![1, 1]⟩
abbrev S128x128 : Shape := ⟨2, ![128, 128]⟩
abbrev S16 : Shape := ⟨1, ![16]⟩
abbrev S16x1 : Shape := ⟨2, ![16, 1]⟩
abbrev S32x128 : Shape := ⟨2, ![32, 128]⟩

/-! ## Side conditions of the accesses -/

theorem inb2 {a b A B m n : ℕ} (h₀ : a + m ≤ A) (h₁ : b + n ≤ B) :
    ∀ x, (![a, b] : Fin 2 → ℕ) x + (⟨2, ![m, n]⟩ : Shape).size x ≤ (⟨2, ![A, B]⟩ : Shape).size x :=
  Fin.forall_fin_two.2 ⟨h₀, h₁⟩

theorem pos_S16x128 : 0 < S16x128.numel := by decide
theorem pos_S16x1 : 0 < S16x1.numel := by decide
theorem pos_S32x128 : 0 < S32x128.numel := by decide
theorem pos_S128x128 : 0 < S128x128.numel := by decide
theorem pos_S256x32 : 0 < S256x32.numel := by decide
theorem pos_S256x4096 : 0 < S256x4096.numel := by decide
theorem pos_S1408x4096 : 0 < S1408x4096.numel := by decide
theorem pos_S256x1408 : 0 < S256x1408.numel := by decide
theorem numel_S1x1 : S1x1.numel = 1 := by decide
theorem reduces : S16x128.Reduces [1] S16 := by decide
theorem casts_S16_S16x1 : S16.ShapeCasts S16x1 := by decide
theorem casts_S16x1 : S16x1.ShapeCasts S16x1 := by decide
theorem casts_S16x128 : S16x128.ShapeCasts S16x128 := by decide
theorem casts_S32x128 : S32x128.ShapeCasts S32x128 := by decide
theorem casts_S256x32 : S256x32.ShapeCasts S256x32 := by decide
theorem casts_S128x128 : S128x128.ShapeCasts S128x128 := by decide
theorem broadcasts : S16x1.Broadcasts S16x128 := by decide
theorem concatenates : Shape.Concatenates [S16x128, S16x128] S32x128 0 := by decide

/-! ## The values -/

variable {F : FTy → Type} [FloatOps F]

/-- `gate * (1 / (1 + exp2 (gate * c))) * up`, of a block of gates and one of ups. -/
def swH (c : F .f32) (x y : Vec F S16x128 .bf16) : FVec F S16x128 .f32 :=
  have gate : FVec F S16x128 .f32 := extf .f32 (shapeCast S16x128 x casts_S16x128) (by decide)
  have up : FVec F S16x128 .f32 := extf .f32 (shapeCast S16x128 y casts_S16x128) (by decide)
  have one : F .f32 := Scalar.ofBits .f32 0x3F800000#32
  have d : FVec F S16x128 .f32 := addf (broadcast S16x128 one) (exp2 (mulf gate (broadcast S16x128 c)))
  have q : FVec F S16x128 .f32 := divf (broadcast S16x128 one) d
  mulf (mulf gate q) up

/-- Each row's greatest magnitude. -/
def rowMax (h : FVec F S16x128 .f32) : FVec F S16x1 .f32 :=
  shapeCast S16x1 (multiReduction .maximumf [1] S16 (absf h) 0xFF800000#32 reduces (.inl rfl) rfl) casts_S16_S16x1

/-- One rung of the ladder: `n + s` where the power of two with that exponent field is at most `t`, else `n`. -/
def rung {s : Shape} (t : FVec F s .f32) (w : BitVec 32) (n : IVec s 32) : IVec s 32 :=
  have u : IVec s 32 := addi n (broadcast s w)
  select (cmpf .ole (bitcastToFloat .f32 (shli u (broadcast s 23#32))) t) u n

/-- The exponent field of the magnitudes `a` times `1 / 448`: 0 below the least normal, 255 at infinity. -/
def expoOf {s : Shape} (a : FVec F s .f32) : IVec s 32 :=
  have k : F .f32 := Scalar.ofBits .f32 0x3B124925#32
  have t : FVec F s .f32 := mulf a (broadcast s k)
  have n : IVec s 32 :=
    rung t 1#32 <| rung t 2#32 <| rung t 4#32 <| rung t 8#32 <| rung t 16#32 <| rung t 32#32 <| rung t 63#32 <|
      rung t 126#32 <| broadcast s 0#32
  have inf : F .f32 := Scalar.ofBits .f32 0x7F800000#32
  select (cmpf .oeq t (broadcast s inf)) (broadcast s 255#32) n

/-- Whether the exponent field is that of a finite normal number. -/
def normalOf {s : Shape} (e : IVec s 32) : IVec s 1 :=
  andi (cmpi .sgt e (broadcast s 0#32)) (cmpi .slt e (broadcast s 255#32))

/-- The inverse scales of the exponent fields `e`. -/
def invOf {s : Shape} (e : IVec s 32) : FVec F s .f32 :=
  have one : F .f32 := Scalar.ofBits .f32 0x3F800000#32
  select (normalOf e) (bitcastToFloat .f32 (shli (subi (broadcast s 253#32) e) (broadcast s 23#32))) (broadcast s one)

/-- The scales of the exponent fields `e`. -/
def sclOf {s : Shape} (e : IVec s 32) : FVec F s .f32 :=
  have one : F .f32 := Scalar.ofBits .f32 0x3F800000#32
  select (normalOf e) (bitcastToFloat .f32 (shli (addi e (broadcast s 1#32)) (broadcast s 23#32))) (broadcast s one)

/-- Lane `l` of `x` in every lane. -/
def lane (x : FVec F S16x128 .bf16) (l : ℕ) (hl : S16x128.Slices ![0, l] S16x1) : FVec F S16x128 .bf16 :=
  broadcastTo S16x128 (shapeCast S16x1 (extractStridedSlice S16x1 ![0, l] x hl) casts_S16x1) broadcasts

/-- Lane `l` of `x` over sixteen rows, then lane `l'` of it over sixteen. -/
def lanes (x : FVec F S16x128 .bf16) (l l' : ℕ) (hl : S16x128.Slices ![0, l] S16x1) (hl' : S16x128.Slices ![0, l'] S16x1) :
    FVec F S32x128 .bf16 :=
  concatenate S32x128 0 [⟨S16x128, lane x l hl⟩, ⟨S16x128, lane x l' hl'⟩] concatenates

/-- The codes: `h` times the inverse scales, clipped to ±448, cast. -/
def codes (h : Vec F S32x128 .f32) (inv : FVec F S32x128 .bf16) : FVec F S32x128 .fp8e4m3 :=
  have lo : F .f32 := Scalar.ofBits .f32 0xC3E00000#32
  have hi : F .f32 := Scalar.ofBits .f32 0x43E00000#32
  have u : FVec F S32x128 .f32 := mulf h (extf .f32 inv (by decide))
  truncf .fp8e4m3 (minimumf (broadcast S32x128 hi) (maximumf (broadcast S32x128 lo) u)) (by decide)

/-- The codes times the scales. -/
def back (q : FVec F S32x128 .fp8e4m3) (s : FVec F S32x128 .bf16) : FVec F S32x128 .bf16 :=
  mulf (extf .bf16 q (by decide)) s

/-! ## The steps -/

/-- The buffers the body works on. -/
structure Bufs (sig : RefSig) where
  /-- the point's gates and ups -/
  gu : Memref sig .tc .vmem S256x8192 .bf16
  gu_whole : gu.IsWhole
  /-- the weights' codes -/
  wc : Memref sig .tc .vmem S1408x4096 .fp8e4m3
  wc_whole : wc.IsWhole
  /-- the weights' scales -/
  ws : Memref sig .tc .smem S11x32 .f32
  ws_whole : ws.IsWhole
  /-- the product -/
  y : Memref sig .tc .vmem S256x1408 .bf16
  y_whole : y.IsWhole
  /-- the activations' codes -/
  xc : Memref sig .tc .vmem S256x4096 .fp8e4m3
  xc_whole : xc.IsWhole
  /-- the groups' magnitudes, then their scales -/
  xs : Memref sig .tc .vmem S256x32 .f32
  xs_whole : xs.IsWhole
  /-- the weights -/
  wa : Memref sig .tc .vmem S1408x4096 .bf16
  wa_whole : wa.IsWhole
  /-- the activations -/
  xa : Memref sig .tc .vmem S256x4096 .bf16
  xa_whole : xa.IsWhole
  /-- a chunk of gated values -/
  h : Memref sig .tc .vmem S256x256 .f32
  h_whole : h.IsWhole
  /-- a chunk's magnitudes -/
  ca : Memref sig .tc .vmem S16x128 .f32
  ca_whole : ca.IsWhole

theorem slices_lane {l : ℕ} (h : l + 1 ≤ 128) : S16x128.Slices ![0, l] S16x1 :=
  ⟨rfl, Fin.forall_fin_two.2 ⟨Nat.le_refl 16, h⟩⟩

theorem packed {a b A B m n : ℕ} {p : ℕ} {inb} (h₀ : p ∣ a) (h₁ : p ∣ m) :
    (Rect.unit (s := (⟨2, ![A, B]⟩ : Shape)) ![a, b] (⟨2, ![m, n]⟩ : Shape).size inb).PackedRows p :=
  .inr ⟨Nat.le_refl 2, rfl, .inl ⟨h₀, h₁⟩⟩

variable {sig : RefSig} {nD : ℕ} {τ : Topo} {Λ : Labels} {α : Type} (B : Bufs sig)

/-- The programs of one device's core. -/
abbrev P (sig : RefSig) (nD : ℕ) (τ : Topo) (Λ : Labels) (F : FTy → Type) (α : Type) := Prog (TpuEff nD τ sig (Elt F) Λ .tc) α

/-- Gated block `p` of chunk `kc`: rows `16 (p / 2)` on, columns `256 kc + 128 (p % 2)` on. -/
def gate (c : F .f32) (kc p : ℕ) (hk : kc < 16) (hp : p < 32) (K : P sig nD τ Λ F α) : P sig nD τ Λ F α :=
  .op (.load B.gu (Rect.unit (s := S256x8192) ![16 * (p / 2), 256 * kc + 128 * (p % 2)] S16x128.size (inb2 (by omega) (by omega))).toLoadRect
    (View.loadsAt_vmem pos_S16x128)) fun x =>
  .op (.load B.gu (Rect.unit (s := S256x8192) ![16 * (p / 2), 4096 + 256 * kc + 128 * (p % 2)] S16x128.size (inb2 (by omega) (by omega))).toLoadRect
    (View.loadsAt_vmem pos_S16x128)) fun y =>
  have v : FVec F S16x128 .f32 := swH c x y
  have a : FVec F S16x1 .f32 := rowMax v
  .op (.load B.h (Rect.unit (s := S256x256) ![16 * (p / 2), 128 * (p % 2)] S16x128.size (inb2 (by omega) (by omega))).toLoadRect
    (View.loadsAt_vmem pos_S16x128)) fun _ =>
  .op (.store B.h (Rect.unit (s := S256x256) ![16 * (p / 2), 128 * (p % 2)] S16x128.size (inb2 (by omega) (by omega)))
    (shapeCast S16x128 v casts_S16x128) Finset.univ (View.stores_vmem_bits_univ pos_S16x128 rfl) (.inl rfl)) fun _ =>
  .op (.load B.ca (Rect.unit (s := S16x128) ![0, p] S16x1.size (inb2 (by omega) (by omega))).toLoadRect
    (View.loadsAt_vmem pos_S16x1)) fun _ =>
  .op (.store B.ca (Rect.unit (s := S16x128) ![0, p] S16x1.size (inb2 (by omega) (by omega)))
    (shapeCast S16x1 a casts_S16x1) Finset.univ (View.stores_vmem_bits_univ pos_S16x1 rfl) (.inl rfl)) fun _ =>
  .op (.load B.xs (Rect.unit (s := S256x32) ![16 * (p / 2), 2 * kc + p % 2] S16x1.size (inb2 (by omega) (by omega))).toLoadRect
    (View.loadsAt_vmem pos_S16x1)) fun _ =>
  .op (.store B.xs (Rect.unit (s := S256x32) ![16 * (p / 2), 2 * kc + p % 2] S16x1.size (inb2 (by omega) (by omega)))
    a Finset.univ (View.stores_vmem_bits_univ pos_S16x1 rfl) (.inl rfl)) fun _ => K

/-- Quantised block `p` of chunk `kc`: rows `32 (p / 2)` on, columns `256 kc + 128 (p % 2)` on. -/
def quant (inv scl : FVec F S16x128 .bf16) (kc p : ℕ) (hk : kc < 16) (hp : p < 16) (K : P sig nD τ Λ F α) : P sig nD τ Λ F α :=
  have i : FVec F S32x128 .bf16 := lanes inv (4 * (p / 2) + p % 2) (4 * (p / 2) + 2 + p % 2) (slices_lane (by omega)) (slices_lane (by omega))
  have s : FVec F S32x128 .bf16 := lanes scl (4 * (p / 2) + p % 2) (4 * (p / 2) + 2 + p % 2) (slices_lane (by omega)) (slices_lane (by omega))
  .op (.load B.h (Rect.unit (s := S256x256) ![32 * (p / 2), 128 * (p % 2)] S32x128.size (inb2 (by omega) (by omega))).toLoadRect
    (View.loadsAt_vmem pos_S32x128)) fun v =>
  have q : FVec F S32x128 .fp8e4m3 := codes v i
  .op (.load B.xc (Rect.unit (s := S256x4096) ![32 * (p / 2), 256 * kc + 128 * (p % 2)] S32x128.size (inb2 (by omega) (by omega))).toLoadRect
    (View.loadsAt_vmem pos_S32x128)) fun _ =>
  .op (.store B.xc (Rect.unit (s := S256x4096) ![32 * (p / 2), 256 * kc + 128 * (p % 2)] S32x128.size (inb2 (by omega) (by omega)))
    q Finset.univ (View.stores_vmem pos_S32x128 (B.xc_whole.storeExact_slice rfl _
      (packed (Dvd.dvd.mul_right (by decide) _) (by decide))) (fun _ => rfl)) (.inl rfl)) fun _ =>
  .op (.load B.xa (Rect.unit (s := S256x4096) ![32 * (p / 2), 256 * kc + 128 * (p % 2)] S32x128.size (inb2 (by omega) (by omega))).toLoadRect
    (View.loadsAt_vmem pos_S32x128)) fun _ =>
  .op (.store B.xa (Rect.unit (s := S256x4096) ![32 * (p / 2), 256 * kc + 128 * (p % 2)] S32x128.size (inb2 (by omega) (by omega)))
    (shapeCast S32x128 (back q s) casts_S32x128) Finset.univ (View.stores_vmem pos_S32x128 (B.xa_whole.storeExact_slice rfl _
      (packed (Dvd.dvd.mul_right (by decide) _) (by decide))) (fun _ => rfl)) (.inl rfl)) fun _ => K

/-- The first `n` gated blocks of a chunk, then `K`. -/
def gates (c : F .f32) (kc : ℕ) (hk : kc < 16) : (n : ℕ) → n ≤ 32 → P sig nD τ Λ F α → P sig nD τ Λ F α
  | 0, _, K => K
  | n + 1, h, K => gates c kc hk n (Nat.le_of_succ_le h) (gate B c kc n hk h K)

/-- The first `n` quantised blocks of a chunk, then `K`. -/
def quants (inv scl : FVec F S16x128 .bf16) (kc : ℕ) (hk : kc < 16) : (n : ℕ) → n ≤ 16 → P sig nD τ Λ F α → P sig nD τ Λ F α
  | 0, _, K => K
  | n + 1, h, K => quants inv scl kc hk n (Nat.le_of_succ_le h) (quant B inv scl kc n hk h K)

/-- Chunk `kc`, then `K`. -/
def chunk (c : F .f32) (kc : ℕ) (hk : kc < 16) (K : P sig nD τ Λ F α) : P sig nD τ Λ F α :=
  gates B c kc hk 32 (Nat.le_refl _) <|
  .op (.load B.ca (Rect.unit (s := S16x128) ![0, 0] S16x128.size (inb2 (Nat.le_refl _) (Nat.le_refl _))).toLoadRect
    (View.loadsAt_vmem pos_S16x128)) fun a =>
  have e : IVec S16x128 32 := expoOf a
  have inv : FVec F S16x128 .bf16 := truncf .bf16 (invOf e) (by decide)
  have scl : FVec F S16x128 .bf16 := truncf .bf16 (sclOf e) (by decide)
  quants B inv scl kc hk 16 (Nat.le_refl _) K

/-- The contraction of the product: columns with columns. -/
def dot : DotDims S256x4096 S1408x4096 S256x1408 where
  lhsContracting := [1]
  rhsContracting := [1]
  lhsNonContracting := [0]
  rhsNonContracting := [0]
  lhsBatch := []
  rhsBatch := []
  wf := by decide

/-- The product of all the activations and all the weights, cast. -/
def product (x : Vec F S256x4096 .bf16) (w : Vec F S1408x4096 .bf16) : FVec F S256x1408 .bf16 :=
  have o : FVec F S256x1408 .f32 := matmul dot none x w (constant S256x1408 .f32 0x00000000#32)
  truncf .bf16 o (by decide)

/-- The groups' scales from their magnitudes, then the product of all the activations and all the weights. -/
def last : P sig nD τ Λ F PUnit :=
  .op (.load B.xs (Rect.unit (s := S256x32) ![0, 0] S256x32.size (inb2 (Nat.le_refl _) (Nat.le_refl _))).toLoadRect
    (View.loadsAt_vmem pos_S256x32)) fun a =>
  have s : FVec F S256x32 .f32 := sclOf (expoOf (shapeCast S256x32 a casts_S256x32))
  .op (.load B.xs (Rect.unit (s := S256x32) ![0, 0] S256x32.size (inb2 (Nat.le_refl _) (Nat.le_refl _))).toLoadRect
    (View.loadsAt_vmem pos_S256x32)) fun _ =>
  .op (.store B.xs (Rect.unit (s := S256x32) ![0, 0] S256x32.size (inb2 (Nat.le_refl _) (Nat.le_refl _)))
    s Finset.univ (View.stores_vmem_bits_univ pos_S256x32 rfl) (.inl rfl)) fun _ =>
  .op (.load B.xa (Rect.unit (s := S256x4096) ![0, 0] S256x4096.size (inb2 (Nat.le_refl _) (Nat.le_refl _))).toLoadRect
    (View.loadsAt_vmem pos_S256x4096)) fun x =>
  .op (.load B.wa (Rect.unit (s := S1408x4096) ![0, 0] S1408x4096.size (inb2 (Nat.le_refl _) (Nat.le_refl _))).toLoadRect
    (View.loadsAt_vmem pos_S1408x4096)) fun w =>
  .op (.load B.y (Rect.unit (s := S256x1408) ![0, 0] S256x1408.size (inb2 (Nat.le_refl _) (Nat.le_refl _))).toLoadRect
    (View.loadsAt_vmem pos_S256x1408)) fun _ =>
  .op (.store B.y (Rect.unit (s := S256x1408) ![0, 0] S256x1408.size (inb2 (Nat.le_refl _) (Nat.le_refl _)))
    (product x w) Finset.univ (View.stores_vmem pos_S256x1408 (B.y_whole.storeExact_slice rfl _
      (packed (Nat.dvd_zero _) (by decide))) (fun _ => rfl)) (.inl rfl)) fun _ => .ret ⟨⟩

/-- A block of weights: its codes times its one scale. -/
def weights (w : F .f32) (q : Vec F S128x128 .fp8e4m3) : FVec F S128x128 .bf16 :=
  shapeCast S128x128 (mulf (extf .bf16 q (by decide)) (truncf .bf16 (broadcast S128x128 w) (by decide))) casts_S128x128

/-- The block of weights at rows `r = 128 s` on and columns `128 b` on. -/
def fill (s r b : ℕ) (hs : s < 11) (hr : r = 128 * s) (hb : b < 32) (K : P sig nD τ Λ F α) : P sig nD τ Λ F α :=
  .op (.load B.ws (Rect.unit (s := S11x32) ![s, b] S1x1.size (inb2 (by omega) (by omega))).toLoadRect
    (View.loadsAt_rect (View.loads_smem_one rfl numel_S1x1))) fun f =>
  have w : F .f32 := f (Shape.Idx.first (numel_S1x1.symm ▸ Nat.one_pos))
  .op (.load B.wc (Rect.unit (s := S1408x4096) ![r, 128 * b] S128x128.size (inb2 (by omega) (by omega))).toLoadRect
    (View.loadsAt_vmem pos_S128x128)) fun q =>
  .op (.load B.wa (Rect.unit (s := S1408x4096) ![r, 128 * b] S128x128.size (inb2 (by omega) (by omega))).toLoadRect
    (View.loadsAt_vmem pos_S128x128)) fun _ =>
  .op (.store B.wa (Rect.unit (s := S1408x4096) ![r, 128 * b] S128x128.size (inb2 (by omega) (by omega)))
    (weights w q) Finset.univ (View.stores_vmem pos_S128x128 (B.wa_whole.storeExact_slice rfl _
      (packed (hr ▸ Dvd.dvd.mul_right (by decide) _) (by decide))) (fun _ => rfl)) (.inl rfl)) fun _ => K

/-- The first `n` blocks of a row of blocks of weights, then `K`. -/
def fills (s r : ℕ) (hs : s < 11) (hr : r = 128 * s) : (n : ℕ) → n ≤ 32 → P sig nD τ Λ F α → P sig nD τ Λ F α
  | 0, _, K => K
  | n + 1, h, K => fills s r hs hr n (Nat.le_of_succ_le h) (fill B s r n hs hr h K)

/-- The loop over the rows of blocks. -/
abbrev rows : Scf.Loop 32 := ⟨0#32, Scalar.addi 0#32 11#32, 1#32⟩

theorem rows_abs : rows.OK ∧ rows.trips ≤ 11 ∧ rows.ub.toInt ≤ 11 := by
  have h0 : Affine.IsInt 0#32 0 := Affine.ofNat _ (by omega)
  have h11 : Affine.IsInt 11#32 11 := Affine.ofNat _ (by omega)
  have h : Affine.IsInt _ 11 := Affine.addi h0 h11 (by omega)
  have h1 : Affine.IsInt 1#32 1 := Affine.ofNat _ (by omega)
  exact ⟨Affine.ok h0 h h1 (by omega), Affine.trips_le h0 h h1 _ (by omega), Affine.le_of h _ (by omega)⟩

theorem rows_trips : rows.trips = 11 := by
  have h0 : Affine.IsInt 0#32 0 := Affine.ofNat _ (by omega)
  have h11 : Affine.IsInt 11#32 11 := Affine.ofNat _ (by omega)
  have h : Affine.IsInt _ 11 := Affine.addi h0 h11 (by omega)
  have h1 : Affine.IsInt 1#32 1 := Affine.ofNat _ (by omega)
  exact Affine.trips_eq h0 h h1 11 (by omega)

theorem row_isInt (t : Fin rows.trips) : Affine.IsInt (Scf.iv 0#32 1#32 t.val) (t.val : Int) := by
  have h0 : Affine.IsInt 0#32 0 := Affine.ofNat _ (by omega)
  have h1 : Affine.IsInt 1#32 1 := Affine.ofNat _ (by omega)
  have r : t.val < 11 := Nat.lt_of_lt_of_le t.isLt rows_abs.2.1
  exact Affine.iv h0 h1 t.val (by omega)

theorem row_eq (t : Fin rows.trips) : (Scf.iv 0#32 1#32 t.val).toNat = t.val :=
  Affine.nat_eq (row_isInt t) _ rfl

theorem row_lt (t : Fin rows.trips) : (Scf.iv 0#32 1#32 t.val).toNat < 11 :=
  (row_eq t).trans_lt (Nat.lt_of_lt_of_le t.isLt rows_abs.2.1)

theorem row_mul (t : Fin rows.trips) : (Scalar.muli (Scf.iv 0#32 1#32 t.val) 128#32).toNat = 128 * (Scf.iv 0#32 1#32 t.val).toNat := by
  have r : t.val < 11 := Nat.lt_of_lt_of_le t.isLt rows_abs.2.1
  have h128 : Affine.IsInt 128#32 128 := Affine.ofNat _ (by omega)
  rw [row_eq]
  exact Affine.nat_eq (Affine.muli (e := 128 * (t.val : Int)) (row_isInt t) h128 (by omega)) _ (by omega)

/-- One trip: row `t` of blocks. -/
def trip (t : Fin rows.trips) : P sig nD τ Λ F PUnit :=
  fills B _ _ (row_lt t) (row_mul t) 32 (Nat.le_refl _) (.ret ⟨⟩)

/-- The first `n` chunks, then `K`. -/
def chunks (c : F .f32) : (n : ℕ) → n ≤ 16 → P sig nD τ Λ F α → P sig nD τ Λ F α
  | 0, _, K => K
  | n + 1, h, K => chunks c n (Nat.le_of_succ_le h) (chunk B c n h K)

/-- What every point does. -/
def rest (c : F .f32) : P sig nD τ Λ F PUnit := chunks B c 16 (Nat.le_refl _) (last B)

/-- What the first point does: the weights first. -/
def first (c : F .f32) : P sig nD τ Λ F PUnit :=
  (Scf.Loop.for rows rows_abs.1 PUnit.unit fun t _ => trip B t).bind fun _ => rest B c

end Cert.Model
-- ==== Proof.KernelBody.lean ====
/-
  The printed body is the sixteen chunks written as loops: each chunk's equation is an unfolding.
-/
module

public import proofs.«01_k».proof.Kernel
public import proofs.«01_k».proof.Proof.Model
public import Idealize.ShloMosaic.Lib.Pipeline.Regions

@[expose] public section
set_option maxRecDepth 65536
noncomputable section
namespace Cert.Kernel.Run
open Idealize.ShloMosaic Idealize.SL.Sem Cert.Model
open K0.Facts₀
variable {F : FTy → Type} [FloatOps F] [Facts]

/-- The buffers of a call. -/
abbrev bufs (arg1 : Memref sig .tc .vmem S256x8192 .bf16) (harg1 : arg1.IsWhole) (arg2 : Memref sig .tc .vmem S1408x4096 .fp8e4m3) (harg2 : arg2.IsWhole) (arg3 : Memref sig .tc .smem S11x32 .f32) (harg3 : arg3.IsWhole) (arg4 : Memref sig .tc .vmem S256x1408 .bf16) (harg4 : arg4.IsWhole) (arg5 : Memref sig .tc .vmem S256x4096 .fp8e4m3) (harg5 : arg5.IsWhole) (arg6 : Memref sig .tc .vmem S256x32 .f32) (harg6 : arg6.IsWhole) (arg7 : Memref sig .tc .vmem S1408x4096 .bf16) (harg7 : arg7.IsWhole) (arg8 : Memref sig .tc .vmem S256x4096 .bf16) (harg8 : arg8.IsWhole) (arg9 : Memref sig .tc .vmem S256x256 .f32) (harg9 : arg9.IsWhole) (arg10 : Memref sig .tc .vmem S16x128 .f32) (harg10 : arg10.IsWhole) : Bufs sig :=
  ⟨arg1, harg1, arg2, harg2, arg3, harg3, arg4, harg4, arg5, harg5, arg6, harg6, arg7, harg7, arg8, harg8, arg9, harg9, arg10, harg10⟩

/-- The printed body over a record of buffers. -/
def body (i : grid0.Coords) (B : Bufs sig) : Prog (TpuEff nD τ sig (Elt F) Λ₀ .tc) PUnit :=
  cc0_swiglu_down i B.gu B.gu_whole B.wc B.wc_whole B.ws B.ws_whole B.y B.y_whole B.xc B.xc_whole B.xs B.xs_whole B.wa B.wa_whole B.xa B.xa_whole B.h B.h_whole B.ca B.ca_whole

/-- The body past its first branch, with the equation that says so. -/
def tail0 (i : grid0.Coords) (B : Bufs sig) : {K : Prog (TpuEff nD τ sig (Elt F) Λ₀ .tc) PUnit //
   k0_cond1 i ≠ 1#1 → body (F := F) i B = K} := by
  apply Subtype.mk
  intro hn
  unfold body cc0_swiglu_down k0_part562 k0_part9
  simp only [bind, pure, dif_neg hn]
  exact rfl

theorem bind_assoc' {E : Type → Type} {α β γ : Type} (p : Prog E α) (f : α → Prog E β) (g : β → Prog E γ) :
    (p.bind f).bind g = p.bind fun a => (f a).bind g := Prog.bind_assoc p f g
/-- The constant the gates are multiplied by. -/
abbrev cc : F .f32 := Scalar.ofBits .f32 0xBFB8AA3B#32

theorem body_first (i : grid0.Coords) (B : Bufs sig) (h : k0_cond1 i = 1#1) :
    body (F := F) i B =
      (Scf.Loop.for rows rows_abs.1 PUnit.unit fun t _ => trip (F := F) (nD := nD) (τ := τ) (Λ := Λ₀) B t).bind fun _ => (tail0 i B).1 := by
  unfold body cc0_swiglu_down k0_part562 k0_part9
  simp only [bind, pure, dif_pos h]
  rw [bind_assoc', bind_assoc', bind_assoc']
  refine congrArg (fun p => Prog.bind p fun _ => (tail0 (F := F) i B).1) ?_
  refine congrArg (fun b => Scf.Loop.for rows rows_abs.1 PUnit.unit b) ?_
  funext t _
  chain_rfl

/-- What is left of a program after `n` loads and stores, whatever they read. -/
def skip {α : Type} : ℕ → Prog (TpuEff nD τ sig (Elt F) Λ₀ .tc) α → Prog (TpuEff nD τ sig (Elt F) Λ₀ .tc) α
  | 0, p => p
  | n + 1, .op (.load m r h) k => skip n (k fun _ => Classical.arbitrary _)
  | n + 1, .op (.store m r w M h hm) k => skip n (k ⟨⟩)
  | _ + 1, p => p

/-- The program after `n` chunks. -/
def tail (i : grid0.Coords) (B : Bufs sig) (n : ℕ) : Prog (TpuEff nD τ sig (Elt F) Λ₀ .tc) PUnit := skip (337 * n) (tail0 i B).1

theorem tail_succ (i : grid0.Coords) (B : Bufs sig) : (n : ℕ) → (h : n < 16) → tail (F := F) i B n = chunk B cc n h (tail i B (n + 1))
  | 0, _ => by chain_rfl
  | 1, _ => by chain_rfl
  | 2, _ => by chain_rfl
  | 3, _ => by chain_rfl
  | 4, _ => by chain_rfl
  | 5, _ => by chain_rfl
  | 6, _ => by chain_rfl
  | 7, _ => by chain_rfl
  | 8, _ => by chain_rfl
  | 9, _ => by chain_rfl
  | 10, _ => by chain_rfl
  | 11, _ => by chain_rfl
  | 12, _ => by chain_rfl
  | 13, _ => by chain_rfl
  | 14, _ => by chain_rfl
  | 15, _ => by chain_rfl
  | _ + 16, h => absurd h (by omega)

theorem tail_last (i : grid0.Coords) (B : Bufs sig) : tail (F := F) i B 16 = last B := by chain_rfl

theorem tail_chunks (i : grid0.Coords) (B : Bufs sig) : (n : ℕ) → (h : n ≤ 16) → tail (F := F) i B 0 = chunks B cc n h (tail i B n)
  | 0, _ => rfl
  | n + 1, h => (tail_chunks i B n (Nat.le_of_succ_le h)).trans (congrArg (chunks B cc n _) (tail_succ i B n h))

theorem tail_eq (i : grid0.Coords) (B : Bufs sig) : (tail0 (F := F) i B).1 = rest B cc :=
  (tail_chunks i B 16 (Nat.le_refl _)).trans (congrArg (chunks B cc 16 _) (tail_last i B))

/-- The body at a point that is not the first. -/
theorem body_eq_rest (i : grid0.Coords) (B : Bufs sig) (h : k0_cond1 i ≠ 1#1) : body (F := F) i B = rest B cc :=
  ((tail0 i B).2 h).trans (tail_eq i B)

/-- The body at the first point. -/
theorem body_eq_first (i : grid0.Coords) (B : Bufs sig) (h : k0_cond1 i = 1#1) : body (F := F) i B = first B cc :=
  (body_first i B h).trans (congrArg (fun K => Prog.bind _ fun _ => K) (tail_eq i B))

end Cert.Kernel.Run
-- ==== Proof.Values.lean ====
/-
  What the kernel's blocks hold, element by element: each operation of a block, read at an index, is one of its
  elements' values.
-/
module

public import proofs.«01_k».proof.Proof.Model
public import Idealize.ShloMosaic.Lib.ValueIdxCore
public import Idealize.ShloMosaic.Lib.Pipeline.Value

@[expose] public section

noncomputable section

namespace Cert.Model

open Idealize.ShloMosaic Idealize.ShloMosaic.ValueIdx

variable {F : FTy → Type} [FloatOps F]

/-! ## One element -/

/-- `swH`, of one gate and one up. -/
def hOf (c : F .f32) (x y : F .bf16) : F .f32 :=
  have gate : F .f32 := FloatOps.extf .f32 (by decide) x
  have one : F .f32 := Scalar.ofBits .f32 0x3F800000#32
  FloatOps.mulf (FloatOps.mulf gate (FloatOps.divf one (FloatOps.addf one (FloatOps.exp2 (FloatOps.mulf gate c)))))
    (FloatOps.extf .f32 (by decide) y)

/-- `rung`, of one element. -/
def rung1 (t : F .f32) (w n : BitVec 32) : BitVec 32 :=
  Scalar.select (FloatOps.cmpf .ole (FloatOps.ofBits .f32 (IntOp.shli .vector (IntOp.addi n w) 23#32)) t) (IntOp.addi n w) n

/-- `expoOf`, of one element. -/
def expo1 (a : F .f32) : BitVec 32 :=
  have t : F .f32 := FloatOps.mulf a (Scalar.ofBits .f32 0x3B124925#32)
  Scalar.select (FloatOps.cmpf .oeq t (Scalar.ofBits .f32 0x7F800000#32)) 255#32
    (rung1 t 1#32 <| rung1 t 2#32 <| rung1 t 4#32 <| rung1 t 8#32 <| rung1 t 16#32 <| rung1 t 32#32 <| rung1 t 63#32 <|
      rung1 t 126#32 0#32)

/-- `normalOf`, of one element. -/
def normal1 (e : BitVec 32) : BitVec 1 := IntOp.andi (IntOp.cmpi .sgt e 0#32) (IntOp.cmpi .slt e 255#32)

/-- `invOf`, of one element. -/
def inv1 (e : BitVec 32) : F .f32 :=
  Scalar.select (normal1 e) (FloatOps.ofBits .f32 (IntOp.shli .vector (IntOp.subi 253#32 e) 23#32)) (Scalar.ofBits .f32 0x3F800000#32)

/-- `sclOf`, of one element. -/
def scl1 (e : BitVec 32) : F .f32 :=
  Scalar.select (normal1 e) (FloatOps.ofBits .f32 (IntOp.shli .vector (IntOp.addi e 1#32) 23#32)) (Scalar.ofBits .f32 0x3F800000#32)

/-- `codes`, of one element. -/
def code1 (h : F .f32) (inv : F .bf16) : F .fp8e4m3 :=
  FloatOps.truncf .fp8e4m3 (by decide) (FloatOps.minimumf (Scalar.ofBits .f32 0x43E00000#32)
    (FloatOps.maximumf (Scalar.ofBits .f32 0xC3E00000#32) (FloatOps.mulf h (FloatOps.extf .f32 (by decide) inv))))

/-- `back`, of one element. -/
def back1 (q : F .fp8e4m3) (s : F .bf16) : F .bf16 := FloatOps.mulf (FloatOps.extf .bf16 (by decide) q) s

/-- `weights`, of one element. -/
def weight1 (w : F .f32) (q : F .fp8e4m3) : F .bf16 :=
  FloatOps.mulf (FloatOps.extf .bf16 (by decide) q) (FloatOps.truncf .bf16 (by decide) w)

theorem reshape_self {V : Type} {A B : ℕ} (x : (⟨2, ![A, B]⟩ : Shape).Idx → V) (h) : shapeCast (⟨2, ![A, B]⟩ : Shape) x h = x := by
  funext j
  exact congrArg x (Shape.reshapeEquiv_self h j)

theorem swH_at (c : F .f32) (x y : Vec F S16x128 .bf16) (i : S16x128.Idx) : swH c x y i = hOf c (x i) (y i) := by
  unfold swH
  rw [reshape_self, reshape_self]
  rfl

theorem expoOf_at {s : Shape} (a : FVec F s .f32) (i : s.Idx) : expoOf a i = expo1 (a i) := rfl
theorem invOf_at {s : Shape} (e : IVec s 32) (i : s.Idx) : invOf (F := F) e i = inv1 (e i) := rfl
theorem sclOf_at {s : Shape} (e : IVec s 32) (i : s.Idx) : sclOf (F := F) e i = scl1 (e i) := rfl
theorem codes_at (h : Vec F S32x128 .f32) (v : FVec F S32x128 .bf16) (i : S32x128.Idx) : codes h v i = code1 (h i) (v i) := rfl
theorem back_at (q : FVec F S32x128 .fp8e4m3) (v : FVec F S32x128 .bf16) (i : S32x128.Idx) : back q v i = back1 (q i) (v i) := rfl
theorem weights_at (w : F .f32) (q : Vec F S128x128 .fp8e4m3) (i : S128x128.Idx) : weights w q i = weight1 w (q i) := by
  unfold weights
  rw [reshape_self]
  rfl

theorem lane_at (x : FVec F S16x128 .bf16) (l : ℕ) (hl) (h : l < 128) (i : S16x128.Idx) :
    lane x l hl i = x (ix2 ⟨(i 0).val, (i 0).isLt⟩ ⟨l, h⟩) := by
  unfold lane
  rw [reshape_self]
  refine congrArg x (funext fun a => Fin.ext ?_)
  match a with
  | ⟨0, _⟩ => exact Nat.zero_add _
  | ⟨1, _⟩ => rfl

theorem lanes_at (x : FVec F S16x128 .bf16) (l l' : ℕ) (hl hl') (h : l < 128) (h' : l' < 128) (i : S32x128.Idx) :
    lanes x l l' hl hl' i =
      if k : (i 0).val < 16 then x (ix2 ⟨(i 0).val, k⟩ ⟨l, h⟩)
      else x (ix2 ⟨(i 0).val - 16, by have : (i 0).val < 32 := (i 0).isLt; omega⟩ ⟨l', h'⟩) := by
  unfold lanes
  by_cases k : (i 0).val < 16
  · rw [dif_pos k, concatenate_pair_apply_left (s₁ := S16x128) (s₂ := S16x128) 0 _ _ _ i rfl (ix2 ⟨(i 0).val, k⟩ ⟨(i 1).val, (i 1).isLt⟩)
      (Fin.forall_fin_two.2 ⟨rfl, rfl⟩), lane_at x l hl h]
  · have h0 : (i 0).val < 32 := (i 0).isLt
    rw [dif_neg k, concatenate_pair_apply_right (s₁ := S16x128) (s₂ := S16x128) 0 _ _ _ i rfl rfl (ix2 ⟨(i 0).val - 16, by omega⟩ ⟨(i 1).val, (i 1).isLt⟩)
      (Fin.forall_fin_two.2 ⟨fun e => absurd rfl e, fun _ => rfl⟩) (Nat.sub_add_cancel (Nat.le_of_not_lt k)), lane_at x l' hl' h']

/-! ## The whole arrays of a point -/

variable (c : F .f32) (g : Vec F S256x8192 .bf16)

/-- The gates and ups, at row and column numbers. -/
def gAt (r j : ℕ) : F .bf16 := g (ix2 ⟨r % 256, Nat.mod_lt _ (by decide)⟩ ⟨j % 8192, Nat.mod_lt _ (by decide)⟩)

/-- The gated value of row `r`, column `j`. -/
def hAt (r j : ℕ) : F .f32 := hOf c (gAt g r j) (gAt g r (4096 + j))

/-- The gated values of sixteen rows and a group of columns. -/
def hBlk (q b : ℕ) : FVec F S16x128 .f32 := fun x => hAt c g (16 * q + (x 0).val) (128 * b + (x 1).val)

/-- The greatest magnitude of row `r`, group `b`. -/
def aAt (r b : ℕ) : F .f32 := rowMax (hBlk c g (r / 16) b) (ix2 ⟨r % 16, Nat.mod_lt _ (by decide)⟩ ⟨0, by decide⟩)

/-- The inverse scale of row `r`, group `b`. -/
def invAt (r b : ℕ) : F .bf16 := FloatOps.truncf .bf16 (by decide) (inv1 (F := F) (expo1 (aAt c g r b)))

/-- The scale of row `r`, group `b`, cast. -/
def sclAt (r b : ℕ) : F .bf16 := FloatOps.truncf .bf16 (by decide) (scl1 (F := F) (expo1 (aAt c g r b)))

/-- The code of row `r`, column `j`. -/
def codeAt (r j : ℕ) : F .fp8e4m3 := code1 (hAt c g r j) (invAt c g r (j / 128))

/-- The codes of a point. -/
def codesV : Vec F S256x4096 .fp8e4m3 := fun y => codeAt c g (y 0).val (y 1).val

/-- The activations of a point. -/
def actsV : Vec F S256x4096 .bf16 := fun y => back1 (codeAt c g (y 0).val (y 1).val) (sclAt c g (y 0).val ((y 1).val / 128))

/-- The scales of a point. -/
def sclsV : Vec F S256x32 .f32 := fun y => scl1 (expo1 (aAt c g (y 0).val (y 1).val))

/-- The weights. -/
def weightsV (wc : Vec F S1408x4096 .fp8e4m3) (ws : Vec F S11x32 .f32) : Vec F S1408x4096 .bf16 := fun y =>
  weight1 (ws (ix2 ⟨(y 0).val / 128, Nat.div_lt_of_lt_mul (y 0).isLt⟩ ⟨(y 1).val / 128, Nat.div_lt_of_lt_mul (y 1).isLt⟩)) (wc y)

end Cert.Model
-- ==== Proof.Steps.lean ====
/-
  Loads and stores of two-dimensional rectangles, over buffers of which a property of the contents is known.
-/
module

public import proofs.«01_k».proof.Proof.Model
public import Idealize.ShloMosaic.Lib.Memref
public import Idealize.ShloMosaic.Lib.WritesUnit
public import Idealize.ShloMosaic.Lib.ValueIdxCore
public import Idealize.ShloMosaic.Lib.Tactic

@[expose] public section

noncomputable section

namespace Cert.Steps

open Idealize.ShloMosaic Idealize.ShloMosaic.ValueIdx Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} [Preorder Lvl] {Λ : Labels}
local notation "𝕄" => MT nD τ sig Ix Val Name U Lvl

/-- `X` with the block `w` put at row `a`, column `b`. -/
def upd {V : Type} {A B m n : ℕ} (a b : ℕ) (w : (⟨2, ![m, n]⟩ : Shape).Idx → V) (X : (⟨2, ![A, B]⟩ : Shape).Idx → V) :
    (⟨2, ![A, B]⟩ : Shape).Idx → V := fun y =>
  if h : (a ≤ (y 0).val ∧ (y 0).val < a + m) ∧ (b ≤ (y 1).val ∧ (y 1).val < b + n) then
    w (ix2 ⟨(y 0).val - a, by omega⟩ ⟨(y 1).val - b, by omega⟩) else X y

/-- Core `c` owns the memref's elements, and what it reads through it has the property `φ`. -/
def own (c : Dev nD) {sp : Space} {sh : Shape} {e : EltTy} (m : Memref sig .tc sp sh e) (φ : (sh.Idx → Val e) → Prop) : sProp 𝕄 :=
  iprop(∃ f, ⌜φ (m.view.read Val f)⌝ ∗ (m.view.loc (c : Thread nD τ) ↦[m.view.set]{fullShare} f))

theorem own_mono (c : Dev nD) {sp : Space} {sh : Shape} {e : EltTy} (m : Memref sig .tc sp sh e) {φ ψ : (sh.Idx → Val e) → Prop}
    (h : ∀ X, φ X → ψ X) : (own c m φ : sProp 𝕄) ⊢ own c m ψ := by
  unfold own
  iintro ⟨%f, %hf, H⟩
  iexists f
  isplitr
  · ipureintro; exact h _ hf
  · iexact H

theorem own_of_owns (c : Dev nD) {sp : Space} {sh : Shape} {e : EltTy} (m : Memref sig .tc sp sh e) (X : sh.Idx → Val e) :
    (owns (c : Thread nD τ) m fullShare X : sProp 𝕄) ⊢ own c m (· = X) := by
  unfold own owns; exact .rfl

theorem owns_of_own (c : Dev nD) {sp : Space} {sh : Shape} {e : EltTy} (m : Memref sig .tc sp sh e) {φ : (sh.Idx → Val e) → Prop} :
    (own c m φ : sProp 𝕄) ⊢ iprop(∃ X, ⌜φ X⌝ ∗ owns (c : Thread nD τ) m fullShare X) := by
  unfold own owns
  iintro ⟨%f, %hf, H⟩
  iexists (m.view.read Val f)
  isplitr
  · ipureintro; exact hf
  iexists f
  isplitr
  · ipureintro; rfl
  · iexact H

variable {defs : Defs nD τ sig Val Λ} (𝒱 : Variants) (c : Dev nD) (bd : Option 𝒱.V) {Γ : PendingWaitsCtx sig Ix} (E : Set Name)
variable {α : Type} {Q : α → sProp (MT nD τ sig Ix Val Name U Lvl)}

theorem wp_load_own {cs : CoreSpace} {e : EltTy} {A B M N a b : ℕ} {m : Memref sig .tc cs ⟨2, ![A, B]⟩ e}
    {inb : ∀ x, (![a, b] : Fin 2 → ℕ) x + (⟨2, ![M, N]⟩ : Shape).size x ≤ (⟨2, ![A, B]⟩ : Shape).size x}
    {hl : m.view.LoadsAt (Rect.unit (s := ⟨2, ![A, B]⟩) ![a, b] (⟨2, ![M, N]⟩ : Shape).size inb).toLoadRect}
    {k : ((⟨2, ![M, N]⟩ : Shape).Idx → Val e) → Prog (TpuEff nD τ sig Val Λ .tc) α} {φ : ((⟨2, ![A, B]⟩ : Shape).Idx → Val e) → Prop} :
    (own c m φ : sProp 𝕄) ⊢ iprop((∀ X, ⌜φ X⌝ -∗ own c m φ -∗ wp frame (wpE' defs 𝒱 (c : Thread nD τ) bd Γ) E
        (k fun x => X (ix2 ⟨a + (x 0).val, Nat.lt_of_lt_of_le (Nat.add_lt_add_left (x 0).isLt _) (inb 0)⟩
          ⟨b + (x 1).val, Nat.lt_of_lt_of_le (Nat.add_lt_add_left (x 1).isLt _) (inb 1)⟩)) Q)
      -∗ wp frame (wpE' defs 𝒱 (c : Thread nD τ) bd Γ) E (.op (.load m _ hl) k) Q) := by
  unfold own
  iintro ⟨%f, %hf, H⟩ Hk
  have hS : (m.access (Rect.unit (s := ⟨2, ![A, B]⟩) ![a, b] (⟨2, ![M, N]⟩ : Shape).size inb)).set ⊆ m.view.set :=
    View.set_slice_subset _ _
  iapply (wp_load_rect 𝒱 (c : Thread nD τ) bd E (hl := hl) hS) $$ H
  iintro H
  have e : (fun x : (⟨2, ![M, N]⟩ : Shape).Idx => m.view.read Val f (ix2 ⟨a + (x 0).val, Nat.lt_of_lt_of_le (Nat.add_lt_add_left (x 0).isLt _) (inb 0)⟩
          ⟨b + (x 1).val, Nat.lt_of_lt_of_le (Nat.add_lt_add_left (x 1).isLt _) (inb 1)⟩)) =
      (m.access (Rect.unit (s := ⟨2, ![A, B]⟩) ![a, b] (⟨2, ![M, N]⟩ : Shape).size inb)).read Val f := by
    funext x
    refine congrArg (m.view.read Val f) (funext fun d => Fin.ext ?_)
    match d with
    | ⟨0, _⟩ => show a + (x 0).val = a + 1 * (x 0).val; omega
    | ⟨1, _⟩ => show b + (x 1).val = b + 1 * (x 1).val; omega
  rw [← e]
  iapply Hk $$ %(m.view.read Val f) %hf
  iexists f
  isplitr
  · ipureintro; exact hf
  · iexact H

theorem wp_store_own {cs : CoreSpace} {e : EltTy} {A B M N a b : ℕ} {m : Memref sig .tc cs ⟨2, ![A, B]⟩ e}
    {inb : ∀ x, (![a, b] : Fin 2 → ℕ) x + (⟨2, ![M, N]⟩ : Shape).size x ≤ (⟨2, ![A, B]⟩ : Shape).size x}
    {w : (⟨2, ![M, N]⟩ : Shape).Idx → Val e}
    {hx : (m.access (Rect.unit (s := ⟨2, ![A, B]⟩) ![a, b] (⟨2, ![M, N]⟩ : Shape).size inb)).Stores Finset.univ} {hm}
    {k : PUnit → Prog (TpuEff nD τ sig Val Λ .tc) α} {φ ψ : ((⟨2, ![A, B]⟩ : Shape).Idx → Val e) → Prop}
    (h : ∀ X, φ X → ψ (upd a b w X)) :
    (own c m φ : sProp 𝕄) ⊢ iprop((own c m ψ -∗ wp frame (wpE' defs 𝒱 (c : Thread nD τ) bd Γ) E (k ⟨⟩) Q)
      -∗ wp frame (wpE' defs 𝒱 (c : Thread nD τ) bd Γ) E
        (.op (.store m (Rect.unit (s := ⟨2, ![A, B]⟩) ![a, b] (⟨2, ![M, N]⟩ : Shape).size inb) w Finset.univ hx hm) k) Q) := by
  unfold own
  iintro ⟨%f, %hf, H⟩ Hk
  have hS : (m.access (Rect.unit (s := ⟨2, ![A, B]⟩) ![a, b] (⟨2, ![M, N]⟩ : Shape).size inb)).setOn Finset.univ ⊆ m.view.set :=
    View.set_slice_subset _ _
  iapply (wp_store 𝒱 (c : Thread nD τ) bd E (hx := hx) (hm := hm) hS) $$ H
  iintro H
  iapply Hk
  iexists ((m.access (Rect.unit (s := ⟨2, ![A, B]⟩) ![a, b] (⟨2, ![M, N]⟩ : Shape).size inb)).write Val f w Finset.univ)
  isplitr
  · ipureintro
    have e : m.view.read Val ((m.access (Rect.unit (s := ⟨2, ![A, B]⟩) ![a, b] (⟨2, ![M, N]⟩ : Shape).size inb)).write Val f w Finset.univ)
        = upd a b w (m.view.read Val f) := by
      funext y
      have h1 := m.view.read_writes_cons_unit f inb w [] y rfl
      refine h1.trans ?_
      unfold upd
      by_cases h0 : (a ≤ (y 0).val ∧ (y 0).val < a + M) ∧ (b ≤ (y 1).val ∧ (y 1).val < b + N)
      · rw [dif_pos h0, dif_pos (Fin.forall_fin_two.2 h0)]
        refine congrArg w (funext fun d => ?_)
        match d with
        | ⟨0, _⟩ => rfl
        | ⟨1, _⟩ => rfl
      · rw [dif_neg h0, dif_neg (fun h' => h0 (Fin.forall_fin_two.1 h'))]
        rfl
    rw [e]
    exact h _ hf
  · iexact H

end Cert.Steps
-- ==== Proof.Blocks.lean ====
/-
  What each buffer holds after some of a chunk's blocks, and that the next block's store keeps it.
-/
module

public import proofs.«01_k».proof.Proof.Values
public import proofs.«01_k».proof.Proof.Steps

@[expose] public section

noncomputable section

namespace Cert.Model

open Idealize.ShloMosaic Idealize.ShloMosaic.ValueIdx Cert.Steps

variable {F : FTy → Type} [FloatOps F] (c : F .f32) (g : Vec F S256x8192 .bf16)

/-! ## The blocks loaded -/

theorem gAt_eq (r j : ℕ) (hr : r < 256) (hj : j < 8192) : g (ix2 ⟨r, hr⟩ ⟨j, hj⟩) = gAt g r j := by
  unfold gAt
  congr 2 <;> exact Fin.ext (Nat.mod_eq_of_lt (by assumption)).symm

/-- A block of gates and the block of ups beside it give the block of gated values. -/
theorem swH_blk (q b a a' : ℕ) (ha : a = 128 * b) (ha' : a' = 4096 + 128 * b) (x y : Vec F S16x128 .bf16)
    (hx : ∀ i, x i = gAt g (16 * q + (i 0).val) (a + (i 1).val)) (hy : ∀ i, y i = gAt g (16 * q + (i 0).val) (a' + (i 1).val)) :
    swH c x y = hBlk c g q b := by
  subst ha ha'
  funext i
  rw [swH_at, hx, hy, Nat.add_assoc 4096]
  rfl

/-- The bounds of a block of sixteen rows. -/
theorem bnd16 {a b A B : ℕ} (h : a + 16 ≤ A) (h' : b + 128 ≤ B) (x : S16x128.Idx) : a + (x 0).val < A ∧ b + (x 1).val < B := by
  have h0 : (x 0).val < 16 := (x 0).isLt
  have h1 : (x 1).val < 128 := (x 1).isLt
  omega

/-- The bounds of a block of thirty-two rows. -/
theorem bnd32 {a b A B : ℕ} (h : a + 32 ≤ A) (h' : b + 128 ≤ B) (x : S32x128.Idx) : a + (x 0).val < A ∧ b + (x 1).val < B := by
  have h0 : (x 0).val < 32 := (x 0).isLt
  have h1 : (x 1).val < 128 := (x 1).isLt
  omega

/-- The gated values of the blocks that a step loads. -/
theorem swH_ld (kc n : ℕ) (hk : kc < 16) (hn : n < 32) :
    swH c (fun x => g (ix2 ⟨16 * (n / 2) + (x 0).val, (bnd16 (B := 128) (b := 0) (by omega) (by omega) x).1⟩
        ⟨256 * kc + 128 * (n % 2) + (x 1).val, (bnd16 (A := 16) (a := 0) (by omega) (by omega) x).2⟩))
      (fun x => g (ix2 ⟨16 * (n / 2) + (x 0).val, (bnd16 (B := 128) (b := 0) (by omega) (by omega) x).1⟩
        ⟨4096 + 256 * kc + 128 * (n % 2) + (x 1).val, (bnd16 (A := 16) (a := 0) (by omega) (by omega) x).2⟩))
      = hBlk c g (n / 2) (2 * kc + n % 2) :=
  swH_blk c g (n / 2) (2 * kc + n % 2) (256 * kc + 128 * (n % 2)) (4096 + 256 * kc + 128 * (n % 2)) (by omega) (by omega)
    _ _ (fun _ => gAt_eq g _ _ _ _) (fun _ => gAt_eq g _ _ _ _)

theorem rowMax_blk (q b : ℕ) (i : S16x1.Idx) : rowMax (hBlk c g q b) i = aAt c g (16 * q + (i 0).val) b := by
  have h0 : (i 0).val < 16 := (i 0).isLt
  have h1 : (i 1).val < 1 := (i 1).isLt
  unfold aAt
  have e : (16 * q + (i 0).val) / 16 = q := by omega
  rw [e]
  refine congrArg (rowMax (hBlk c g q b)) (funext fun a => Fin.ext ?_)
  match a with
  | ⟨0, _⟩ => show (i 0).val = (16 * q + (i 0).val) % 16; omega
  | ⟨1, _⟩ => show (i 1).val = 0; omega

/-! ## What the buffers hold -/

/-- The chunk's gated values, after `n` of its blocks. -/
def HoldsH (kc n : ℕ) (X : Vec F S256x256 .f32) : Prop :=
  ∀ y, 2 * ((y 0).val / 16) + (y 1).val / 128 < n → X y = hAt c g (y 0).val (256 * kc + (y 1).val)

/-- The chunk's magnitudes, one block's in each lane, after `n` of its blocks. -/
def HoldsCa (kc n : ℕ) (X : Vec F S16x128 .f32) : Prop :=
  ∀ y, (y 1).val < n → X y = aAt c g (16 * ((y 1).val / 2) + (y 0).val) (2 * kc + (y 1).val % 2)

/-- The magnitudes, after `kc` chunks and `n` blocks. -/
def HoldsXs (kc n : ℕ) (X : Vec F S256x32 .f32) : Prop :=
  ∀ y, ((y 1).val / 2 < kc ∨ ((y 1).val / 2 = kc ∧ 2 * ((y 0).val / 16) + (y 1).val % 2 < n)) → X y = aAt c g (y 0).val (y 1).val

/-- An array of activations `v`, after `kc` chunks and `n` blocks. -/
def HoldsX {V : Type} (v : S256x4096.Idx → V) (kc n : ℕ) (X : S256x4096.Idx → V) : Prop :=
  ∀ y, ((y 1).val / 256 < kc ∨ ((y 1).val / 256 = kc ∧ 2 * ((y 0).val / 32) + (y 1).val / 128 % 2 < n)) → X y = v y

/-- The weights `v`, after `s` rows of blocks and `n` blocks. -/
def HoldsW {V : Type} (v : S1408x4096.Idx → V) (s n : ℕ) (X : S1408x4096.Idx → V) : Prop :=
  ∀ y, ((y 0).val / 128 < s ∨ ((y 0).val / 128 = s ∧ (y 1).val / 128 < n)) → X y = v y

variable {c g}

theorem HoldsH.zero {kc : ℕ} {X} : HoldsH c g kc 0 X := fun _ h => absurd h (Nat.not_lt_zero _)
theorem HoldsCa.zero {kc : ℕ} {X} : HoldsCa c g kc 0 X := fun _ h => absurd h (Nat.not_lt_zero _)
theorem HoldsXs.zero {X} : HoldsXs c g 0 0 X := fun _ h => by omega
theorem HoldsX.zero {V : Type} {v : S256x4096.Idx → V} {X} : HoldsX v 0 0 X := fun _ h => by omega
theorem HoldsW.zero {V : Type} {v : S1408x4096.Idx → V} {X} : HoldsW v 0 0 X := fun _ h => by omega

theorem HoldsXs.next {kc : ℕ} {X} (h : HoldsXs c g kc 32 X) : HoldsXs c g (kc + 1) 0 X := fun y hy => h y (by
  have h0 : (y 0).val < 256 := (y 0).isLt
  omega)

theorem HoldsX.next {V : Type} {v : S256x4096.Idx → V} {kc : ℕ} {X} (h : HoldsX v kc 16 X) : HoldsX v (kc + 1) 0 X := fun y hy => h y (by
  have h0 : (y 0).val < 256 := (y 0).isLt
  omega)

theorem HoldsW.next {V : Type} {v : S1408x4096.Idx → V} {s : ℕ} {X} (h : HoldsW v s 32 X) : HoldsW v (s + 1) 0 X := fun y hy => h y (by
  have h0 : (y 1).val < 4096 := (y 1).isLt
  omega)

theorem HoldsX.all {V : Type} {v : S256x4096.Idx → V} {X} (h : HoldsX v 16 0 X) : X = v := funext fun y => h y (.inl (by
  have h1 : (y 1).val < 4096 := (y 1).isLt
  omega))

theorem HoldsW.all {V : Type} {v : S1408x4096.Idx → V} {X} (h : HoldsW v 11 0 X) : X = v := funext fun y => h y (.inl (by
  have h1 : (y 0).val < 1408 := (y 0).isLt
  omega))

theorem HoldsXs.all {X} (h : HoldsXs c g 16 0 X) (y : S256x32.Idx) : X y = aAt c g (y 0).val (y 1).val := h y (.inl (by
  have h1 : (y 1).val < 32 := (y 1).isLt
  omega))

/-! ## The next block's store -/

theorem HoldsH.step {kc n : ℕ} {X : Vec F S256x256 .f32} (w : Vec F S16x128 .f32) (hw : w = hBlk c g (n / 2) (2 * kc + n % 2))
    (h : HoldsH c g kc n X) : HoldsH c g kc (n + 1) (upd (16 * (n / 2)) (128 * (n % 2)) w X) := by
  intro y hy
  have h1 : (y 1).val < 256 := (y 1).isLt
  unfold upd
  split
  · next hb =>
    rw [hw]
    show hAt c g (16 * (n / 2) + ((y 0).val - 16 * (n / 2))) (128 * (2 * kc + n % 2) + ((y 1).val - 128 * (n % 2))) = _
    congr 1 <;> omega
  · next hb => exact h y (by omega)

theorem HoldsCa.step {kc n : ℕ} {X : Vec F S16x128 .f32} (w : Vec F S16x1 .f32) (hw : w = rowMax (hBlk c g (n / 2) (2 * kc + n % 2)))
    (h : HoldsCa c g kc n X) : HoldsCa c g kc (n + 1) (upd 0 n w X) := by
  intro y hy
  have h0 : (y 0).val < 16 := (y 0).isLt
  unfold upd
  split
  · next hb =>
    rw [hw, rowMax_blk]
    show aAt c g (16 * (n / 2) + ((y 0).val - 0)) _ = _
    have e : (y 1).val = n := by omega
    rw [e, Nat.sub_zero]
  · next hb => exact h y (by omega)

theorem HoldsXs.step {kc n : ℕ} {X : Vec F S256x32 .f32} (w : Vec F S16x1 .f32) (hw : w = rowMax (hBlk c g (n / 2) (2 * kc + n % 2)))
    (h : HoldsXs c g kc n X) : HoldsXs c g kc (n + 1) (upd (16 * (n / 2)) (2 * kc + n % 2) w X) := by
  intro y hy
  unfold upd
  split
  · next hb =>
    rw [hw, rowMax_blk]
    show aAt c g (16 * (n / 2) + ((y 0).val - 16 * (n / 2))) _ = _
    congr 1 <;> omega
  · next hb => exact h y (by omega)

theorem HoldsX.step {V : Type} {v : S256x4096.Idx → V} {kc n : ℕ} {X : S256x4096.Idx → V} (w : S32x128.Idx → V)
    (hw : ∀ i y, (y 0).val = 32 * (n / 2) + (i 0).val → (y 1).val = 256 * kc + 128 * (n % 2) + (i 1).val → w i = v y)
    (h : HoldsX v kc n X) : HoldsX v kc (n + 1) (upd (32 * (n / 2)) (256 * kc + 128 * (n % 2)) w X) := by
  intro y hy
  unfold upd
  split
  · next hb =>
    refine hw _ y ?_ ?_
    · show _ = 32 * (n / 2) + ((y 0).val - 32 * (n / 2)); omega
    · show _ = 256 * kc + 128 * (n % 2) + ((y 1).val - (256 * kc + 128 * (n % 2))); omega
  · next hb => exact h y (by omega)

theorem HoldsW.step {V : Type} {v : S1408x4096.Idx → V} {s n r : ℕ} {X : S1408x4096.Idx → V} (w : S128x128.Idx → V) (hr : r = 128 * s)
    (hw : ∀ i y, (y 0).val = 128 * s + (i 0).val → (y 1).val = 128 * n + (i 1).val → w i = v y)
    (h : HoldsW v s n X) : HoldsW v s (n + 1) (upd r (128 * n) w X) := by
  subst hr
  intro y hy
  unfold upd
  split
  · next hb =>
    refine hw _ y ?_ ?_
    · show _ = 128 * s + ((y 0).val - 128 * s); omega
    · show _ = 128 * n + ((y 1).val - 128 * n); omega
  · next hb => exact h y (by omega)

/-! ## The quantised block -/

/-- The lanes of a value of the magnitudes, over a block's rows, are that block's values. -/
theorem lanes_holds {kc p : ℕ} (x : FVec F S16x128 .bf16) (f : ℕ → ℕ → F .bf16)
    (hx : ∀ i : S16x128.Idx, (i 1).val < 32 → x i = f (16 * ((i 1).val / 2) + (i 0).val) (2 * kc + (i 1).val % 2))
    (hp : p < 16) (hl hl') (i : S32x128.Idx) :
    lanes x (4 * (p / 2) + p % 2) (4 * (p / 2) + 2 + p % 2) hl hl' i = f (32 * (p / 2) + (i 0).val) (2 * kc + p % 2) := by
  rw [lanes_at x _ _ hl hl' (by omega) (by omega)]
  split
  · next k =>
    rw [hx _ (by show 4 * (p / 2) + p % 2 < 32; omega)]
    show f (16 * ((4 * (p / 2) + p % 2) / 2) + (i 0).val) (2 * kc + (4 * (p / 2) + p % 2) % 2) = _
    congr 1 <;> omega
  · next k =>
    rw [hx _ (by show 4 * (p / 2) + 2 + p % 2 < 32; omega)]
    show f (16 * ((4 * (p / 2) + 2 + p % 2) / 2) + ((i 0).val - 16)) (2 * kc + (4 * (p / 2) + 2 + p % 2) % 2) = _
    congr 1 <;> omega

theorem inv_holds {kc : ℕ} {a : Vec F S16x128 .f32} (h : HoldsCa c g kc 32 a) (hb) (i : S16x128.Idx) (hi : (i 1).val < 32) :
    truncf .bf16 (invOf (F := F) (expoOf a)) hb i = invAt c g (16 * ((i 1).val / 2) + (i 0).val) (2 * kc + (i 1).val % 2) := by
  show FloatOps.truncf .bf16 hb (invOf (F := F) (expoOf a) i) = _
  rw [invOf_at, expoOf_at, h i hi]
  rfl

theorem scl_holds {kc : ℕ} {a : Vec F S16x128 .f32} (h : HoldsCa c g kc 32 a) (hb) (i : S16x128.Idx) (hi : (i 1).val < 32) :
    truncf .bf16 (sclOf (F := F) (expoOf a)) hb i = sclAt c g (16 * ((i 1).val / 2) + (i 0).val) (2 * kc + (i 1).val % 2) := by
  show FloatOps.truncf .bf16 hb (sclOf (F := F) (expoOf a) i) = _
  rw [sclOf_at, expoOf_at, h i hi]
  rfl

/-- A block's codes, from its gated values and inverse scales. -/
theorem codes_holds {kc p : ℕ} (hk : kc < 16) (hp : p < 16) {v : Vec F S32x128 .f32} {i' : FVec F S32x128 .bf16}
    (hv : ∀ i, v i = hAt c g (32 * (p / 2) + (i 0).val) (256 * kc + (128 * (p % 2) + (i 1).val)))
    (hi : ∀ i, i' i = invAt c g (32 * (p / 2) + (i 0).val) (2 * kc + p % 2)) (i : S32x128.Idx) (y : S256x4096.Idx)
    (h0 : (y 0).val = 32 * (p / 2) + (i 0).val) (h1 : (y 1).val = 256 * kc + 128 * (p % 2) + (i 1).val) :
    codes v i' i = codesV c g y := by
  have hi1 : (i 1).val < 128 := (i 1).isLt
  rw [codes_at, hv, hi]
  unfold codesV codeAt
  rw [h0, h1, Nat.add_assoc]
  congr 2
  omega

/-- The codes of the block that a step loads. -/
theorem codes_ld {kc n : ℕ} (hk : kc < 16) (hn : n < 16) {X : Vec F S256x256 .f32} (h : HoldsH c g kc 32 X) {i' : FVec F S32x128 .bf16}
    (hi : ∀ i, i' i = invAt c g (32 * (n / 2) + (i 0).val) (2 * kc + n % 2)) (i : S32x128.Idx) (y : S256x4096.Idx)
    (h0 : (y 0).val = 32 * (n / 2) + (i 0).val) (h1 : (y 1).val = 256 * kc + 128 * (n % 2) + (i 1).val) :
    codes (fun x => X (ix2 ⟨32 * (n / 2) + (x 0).val, (bnd32 (B := 128) (b := 0) (by omega) (by omega) x).1⟩
      ⟨128 * (n % 2) + (x 1).val, (bnd32 (A := 32) (a := 0) (by omega) (by omega) x).2⟩)) i' i = codesV c g y :=
  codes_holds hk hn (fun i => h _ (by
    have h0 : (i 0).val < 32 := (i 0).isLt
    have h1 : (i 1).val < 128 := (i 1).isLt
    show 2 * ((32 * (n / 2) + (i 0).val) / 16) + (128 * (n % 2) + (i 1).val) / 128 < 32
    omega)) hi i y h0 h1

/-- A block's activations, from its codes and scales. -/
theorem back_holds {kc p : ℕ} (hk : kc < 16) (hp : p < 16) {q : FVec F S32x128 .fp8e4m3} {s : FVec F S32x128 .bf16}
    (hq : ∀ (i : S32x128.Idx) (y : S256x4096.Idx), (y 0).val = 32 * (p / 2) + (i 0).val →
      (y 1).val = 256 * kc + 128 * (p % 2) + (i 1).val → q i = codesV c g y)
    (hs : ∀ i, s i = sclAt c g (32 * (p / 2) + (i 0).val) (2 * kc + p % 2)) (i : S32x128.Idx) (y : S256x4096.Idx)
    (h0 : (y 0).val = 32 * (p / 2) + (i 0).val) (h1 : (y 1).val = 256 * kc + 128 * (p % 2) + (i 1).val) :
    back q s i = actsV c g y := by
  have hi1 : (i 1).val < 128 := (i 1).isLt
  rw [back_at, hq i y h0 h1, hs]
  unfold actsV codesV
  have e : (y 1).val / 128 = 2 * kc + p % 2 := by omega
  rw [e, h0]

/-- A block's weights, from its codes and its scale. -/
theorem weights_holds {s n : ℕ} {wc : Vec F S1408x4096 .fp8e4m3} {ws : Vec F S11x32 .f32} {w : F .f32} {q : Vec F S128x128 .fp8e4m3}
    (hs : s < 11) (hn : n < 32) (hw : w = ws (ix2 ⟨s, hs⟩ ⟨n, hn⟩))
    (hq : ∀ (i : S128x128.Idx) (y : S1408x4096.Idx), (y 0).val = 128 * s + (i 0).val → (y 1).val = 128 * n + (i 1).val → q i = wc y)
    (i : S128x128.Idx) (y : S1408x4096.Idx) (h0 : (y 0).val = 128 * s + (i 0).val) (h1 : (y 1).val = 128 * n + (i 1).val) :
    weights w q i = weightsV wc ws y := by
  have hi0 : (i 0).val < 128 := (i 0).isLt
  have hi1 : (i 1).val < 128 := (i 1).isLt
  rw [weights_at, hq i y h0 h1, hw]
  unfold weightsV
  congr 3
  · exact Fin.ext (by show s = (y 0).val / 128; omega)
  · exact Fin.ext (by show n = (y 1).val / 128; omega)

end Cert.Model
-- ==== Proof.Triple.lean ====
/-
  What the body leaves in the buffers it works on.
-/
module

public import proofs.«01_k».proof.Proof.Blocks

@[expose] public section

noncomputable section

namespace Cert.Model

open Idealize.ShloMosaic Idealize.ShloMosaic.ValueIdx Idealize.ShloMosaic.TcCoe Cert.Steps
open Idealize.SL Idealize.SL.RA Idealize.SL.Sem Idealize.SL.ProofMode
open Idealize.SL.BI (sProp)
open scoped Idealize.SL.BI
open Idealize.SL.BI.BIBase Idealize.SL.BI.Laws

variable {F : FTy → Type} [FloatOps F]
variable {nD : Nat} {τ : Topo} {sig : RefSig} {Ix : Type} [DecidableEq Ix]
variable {Name : Type} [DecidableEq Name]
variable {U : Type} [URA U]
variable {Lvl : Type} [Preorder Lvl] {Λ : Labels}
local notation "𝕄" => MT nD τ sig Ix (Elt F) Name U Lvl

variable {defs : Defs nD τ sig (Elt F) Λ} (𝒱 : Variants) (d : Dev nD) (bd : Option 𝒱.V) {Γ : PendingWaitsCtx sig Ix} (E : Set Name)
variable {α : Type} {Q : α → sProp (MT nD τ sig Ix (Elt F) Name U Lvl)}
variable (B : Bufs sig) (c : F .f32) (g : Vec F S256x8192 .bf16)

/-- The buffers the gated blocks work on, after `n` of a chunk's. -/
def GateSt (kc n : ℕ) : sProp 𝕄 :=
  iprop(own d B.gu (· = g) ∗ own d B.h (HoldsH c g kc n) ∗ own d B.ca (HoldsCa c g kc n) ∗ own d B.xs (HoldsXs c g kc n))

theorem wp_gate (kc n : ℕ) (hk : kc < 16) (hn : n < 32) (K : P sig nD τ Λ F α) :
    (GateSt d B c g kc n : sProp 𝕄) ⊢ iprop((GateSt d B c g kc (n + 1) -∗ wp frame (wpE' defs 𝒱 (d : Thread nD τ) bd Γ) E K Q)
      -∗ wp frame (wpE' defs 𝒱 (d : Thread nD τ) bd Γ) E (gate B c kc n hk hn K) Q) := by
  unfold GateSt gate
  iintro ⟨Hg, Hh, Hc, Hx⟩ Hk
  iapply (wp_load_own 𝒱 d bd E) $$ Hg
  iintro %x0 %hx Hg
  iapply (wp_load_own 𝒱 d bd E) $$ Hg
  iintro %y0 %hy Hg
  subst hx hy
  have hw := swH_ld c y0 kc n hk hn
  iapply (wp_load_own 𝒱 d bd E) $$ Hh
  iintro %_ %_ Hh
  iapply (wp_store_own 𝒱 d bd E (fun X => HoldsH.step _ ((reshape_self _ _).trans hw))) $$ Hh
  iintro Hh
  iapply (wp_load_own 𝒱 d bd E) $$ Hc
  iintro %_ %_ Hc
  iapply (wp_store_own 𝒱 d bd E (fun X => HoldsCa.step _ ((reshape_self _ _).trans (congrArg rowMax hw)))) $$ Hc
  iintro Hc
  iapply (wp_load_own 𝒱 d bd E) $$ Hx
  iintro %_ %_ Hx
  iapply (wp_store_own 𝒱 d bd E (fun X => HoldsXs.step _ (congrArg rowMax hw))) $$ Hx
  iintro Hx
  iapply Hk
  isplitl [Hg]; · iexact Hg
  isplitl [Hh]; · iexact Hh
  isplitl [Hc]; · iexact Hc
  iexact Hx

theorem wp_gates (kc : ℕ) (hk : kc < 16) : (n : ℕ) → (hn : n ≤ 32) → (K : P sig nD τ Λ F α) →
    (GateSt d B c g kc 0 : sProp 𝕄) ⊢ iprop((GateSt d B c g kc n -∗ wp frame (wpE' defs 𝒱 (d : Thread nD τ) bd Γ) E K Q)
      -∗ wp frame (wpE' defs 𝒱 (d : Thread nD τ) bd Γ) E (gates B c kc hk n hn K) Q)
  | 0, _, K => by
    iintro H Hk
    unfold gates
    iapply Hk
    iexact H
  | n + 1, hn, K => by
    iintro H Hk
    unfold gates
    iapply (wp_gates kc hk n (Nat.le_of_succ_le hn) (gate B c kc n hk hn K)) $$ H
    iintro H
    iapply (wp_gate 𝒱 d bd E B c g kc n hk hn K) $$ H
    iexact Hk

/-- The buffers the quantised blocks work on, after `n` of a chunk's. -/
def QuantSt (kc n : ℕ) : sProp 𝕄 :=
  iprop(own d B.h (HoldsH c g kc 32) ∗ own d B.xc (HoldsX (codesV c g) kc n) ∗ own d B.xa (HoldsX (actsV c g) kc n))

theorem wp_quant (kc n : ℕ) (hk : kc < 16) (hn : n < 16) (K : P sig nD τ Λ F α) (inv scl : FVec F S16x128 .bf16)
    (hi : ∀ i : S16x128.Idx, (i 1).val < 32 → inv i = invAt c g (16 * ((i 1).val / 2) + (i 0).val) (2 * kc + (i 1).val % 2))
    (hs : ∀ i : S16x128.Idx, (i 1).val < 32 → scl i = sclAt c g (16 * ((i 1).val / 2) + (i 0).val) (2 * kc + (i 1).val % 2)) :
    (QuantSt d B c g kc n : sProp 𝕄) ⊢ iprop((QuantSt d B c g kc (n + 1) -∗ wp frame (wpE' defs 𝒱 (d : Thread nD τ) bd Γ) E K Q)
      -∗ wp frame (wpE' defs 𝒱 (d : Thread nD τ) bd Γ) E (quant B inv scl kc n hk hn K) Q) := by
  unfold QuantSt quant
  iintro ⟨Hh, Hc, Ha⟩ Hk
  iapply (wp_load_own 𝒱 d bd E) $$ Hh
  iintro %X %hX Hh
  have hc := codes_ld (c := c) (g := g) hk hn hX (lanes_holds inv (invAt c g) hi hn (slices_lane (by omega)) (slices_lane (by omega)))
  iapply (wp_load_own 𝒱 d bd E) $$ Hc
  iintro %_ %_ Hc
  iapply (wp_store_own 𝒱 d bd E (fun X => HoldsX.step _ hc)) $$ Hc
  iintro Hc
  iapply (wp_load_own 𝒱 d bd E) $$ Ha
  iintro %_ %_ Ha
  iapply (wp_store_own 𝒱 d bd E (fun X => HoldsX.step _ (fun i y h0 h1 => (congrFun (reshape_self _ _) i).trans
    (back_holds hk hn hc (lanes_holds scl (sclAt c g) hs hn (slices_lane (by omega)) (slices_lane (by omega))) i y h0 h1)))) $$ Ha
  iintro Ha
  iapply Hk
  isplitl [Hh]; · iexact Hh
  isplitl [Hc]; · iexact Hc
  iexact Ha

theorem wp_quants (kc : ℕ) (hk : kc < 16) (inv scl : FVec F S16x128 .bf16)
    (hi : ∀ i : S16x128.Idx, (i 1).val < 32 → inv i = invAt c g (16 * ((i 1).val / 2) + (i 0).val) (2 * kc + (i 1).val % 2))
    (hs : ∀ i : S16x128.Idx, (i 1).val < 32 → scl i = sclAt c g (16 * ((i 1).val / 2) + (i 0).val) (2 * kc + (i 1).val % 2)) :
    (n : ℕ) → (hn : n ≤ 16) → (K : P sig nD τ Λ F α) →
    (QuantSt d B c g kc 0 : sProp 𝕄) ⊢ iprop((QuantSt d B c g kc n -∗ wp frame (wpE' defs 𝒱 (d : Thread nD τ) bd Γ) E K Q)
      -∗ wp frame (wpE' defs 𝒱 (d : Thread nD τ) bd Γ) E (quants B inv scl kc hk n hn K) Q)
  | 0, _, K => by
    iintro H Hk
    unfold quants
    iapply Hk
    iexact H
  | n + 1, hn, K => by
    iintro H Hk
    unfold quants
    iapply (wp_quants kc hk inv scl hi hs n (Nat.le_of_succ_le hn) (quant B inv scl kc n hk hn K)) $$ H
    iintro H
    iapply (wp_quant 𝒱 d bd E B c g kc n hk hn K inv scl hi hs) $$ H
    iexact Hk

/-- The buffers the chunks work on, after `kc` of them. -/
def ChunkSt (kc : ℕ) : sProp 𝕄 :=
  iprop(own d B.gu (· = g) ∗ own d B.h (fun _ => True) ∗ own d B.ca (fun _ => True) ∗ own d B.xs (HoldsXs c g kc 0) ∗
    own d B.xc (HoldsX (codesV c g) kc 0) ∗ own d B.xa (HoldsX (actsV c g) kc 0))

theorem wp_chunk (kc : ℕ) (hk : kc < 16) (K : P sig nD τ Λ F α) :
    (ChunkSt d B c g kc : sProp 𝕄) ⊢ iprop((ChunkSt d B c g (kc + 1) -∗ wp frame (wpE' defs 𝒱 (d : Thread nD τ) bd Γ) E K Q)
      -∗ wp frame (wpE' defs 𝒱 (d : Thread nD τ) bd Γ) E (chunk B c kc hk K) Q) := by
  unfold ChunkSt chunk
  iintro ⟨Hg, Hh, Hc, Hx, Hq, Ha⟩ Hk
  iapply (wp_gates 𝒱 d bd E B c g kc hk 32 (Nat.le_refl _) _) $$ [Hg Hh Hc Hx]
  · unfold GateSt
    isplitl [Hg]; · iexact Hg
    isplitl [Hh]; · iapply (own_mono d B.h fun _ _ => HoldsH.zero) $$ Hh
    isplitl [Hc]; · iapply (own_mono d B.ca fun _ _ => HoldsCa.zero) $$ Hc
    iexact Hx
  unfold GateSt
  iintro ⟨Hg, Hh, Hc, Hx⟩
  iapply (wp_load_own 𝒱 d bd E) $$ Hc
  iintro %a %ha Hc
  have ea : (fun x : S16x128.Idx => a (ix2 ⟨0 + (x 0).val, Nat.lt_of_lt_of_le (Nat.add_lt_add_left (x 0).isLt _) (Nat.le_refl 16)⟩
      ⟨0 + (x 1).val, Nat.lt_of_lt_of_le (Nat.add_lt_add_left (x 1).isLt _) (Nat.le_refl 128)⟩)) = a := by
    funext x
    refine congrArg a (funext fun b => Fin.ext ?_)
    match b with
    | ⟨0, _⟩ => exact Nat.zero_add _
    | ⟨1, _⟩ => exact Nat.zero_add _
  rw [ea]
  iapply (wp_quants 𝒱 d bd E B c g kc hk _ _ (inv_holds ha _) (scl_holds ha _) 16 (Nat.le_refl _) K) $$ [Hh Hq Ha]
  · unfold QuantSt
    isplitl [Hh]; · iexact Hh
    isplitl [Hq]; · iexact Hq
    iexact Ha
  unfold QuantSt
  iintro ⟨Hh, Hq, Ha⟩
  iapply Hk
  isplitl [Hg]; · iexact Hg
  isplitl [Hh]; · iapply (own_mono d B.h fun _ _ => trivial) $$ Hh
  isplitl [Hc]; · iapply (own_mono d B.ca fun _ _ => trivial) $$ Hc
  isplitl [Hx]; · iapply (own_mono d B.xs fun _ h => h.next) $$ Hx
  isplitl [Hq]; · iapply (own_mono d B.xc fun _ h => h.next) $$ Hq
  iapply (own_mono d B.xa fun _ h => h.next) $$ Ha

theorem wp_chunks : (n : ℕ) → (hn : n ≤ 16) → (K : P sig nD τ Λ F α) →
    (ChunkSt d B c g 0 : sProp 𝕄) ⊢ iprop((ChunkSt d B c g n -∗ wp frame (wpE' defs 𝒱 (d : Thread nD τ) bd Γ) E K Q)
      -∗ wp frame (wpE' defs 𝒱 (d : Thread nD τ) bd Γ) E (chunks B c n hn K) Q)
  | 0, _, K => by
    iintro H Hk
    unfold chunks
    iapply Hk
    iexact H
  | n + 1, hn, K => by
    iintro H Hk
    unfold chunks
    iapply (wp_chunks n (Nat.le_of_succ_le hn) (chunk B c n hn K)) $$ H
    iintro H
    iapply (wp_chunk 𝒱 d bd E B c g n hn K) $$ H
    iexact Hk

/-! ## The end of a point -/

/-- A block at row 0, column 0 of the whole size is the array. -/
theorem ld_all {V : Type} {A B : ℕ} (a : (⟨2, ![A, B]⟩ : Shape).Idx → V)
    (h : ∀ x : (⟨2, ![A, B]⟩ : Shape).Idx, 0 + (x 0).val < A) (h' : ∀ x : (⟨2, ![A, B]⟩ : Shape).Idx, 0 + (x 1).val < B) :
    (fun x : (⟨2, ![A, B]⟩ : Shape).Idx => a (ix2 ⟨0 + (x 0).val, h x⟩ ⟨0 + (x 1).val, h' x⟩)) = a := by
  funext x
  refine congrArg a (funext fun b => Fin.ext ?_)
  match b with
  | ⟨0, _⟩ => exact Nat.zero_add _
  | ⟨1, _⟩ => exact Nat.zero_add _

/-- An array put whole at row 0, column 0. -/
theorem upd_all {V : Type} {A B : ℕ} (w X : (⟨2, ![A, B]⟩ : Shape).Idx → V) : upd 0 0 w X = w := by
  funext y
  have h0 : (y 0).val < A := (y 0).isLt
  have h1 : (y 1).val < B := (y 1).isLt
  unfold upd
  rw [dif_pos (by omega)]
  refine congrArg w (funext fun b => Fin.ext ?_)
  match b with
  | ⟨0, _⟩ => rfl
  | ⟨1, _⟩ => rfl

variable (W : Vec F S1408x4096 .bf16)

/-- What every point starts from: its gates and ups, and the weights. -/
def PreSt : sProp 𝕄 :=
  iprop(own d B.gu (· = g) ∗ own d B.y (fun _ => True) ∗ own d B.xc (fun _ => True) ∗ own d B.xs (fun _ => True) ∗
    own d B.wa (· = W) ∗ own d B.xa (fun _ => True) ∗ own d B.h (fun _ => True) ∗ own d B.ca (fun _ => True))

/-- What every point ends with: the product, the codes and the scales. -/
def PostSt : sProp 𝕄 :=
  iprop(own d B.gu (· = g) ∗ own d B.y (· = product (actsV c g) W) ∗ own d B.xc (· = codesV c g) ∗ own d B.xs (· = sclsV c g) ∗
    own d B.wa (· = W) ∗ own d B.xa (fun _ => True) ∗ own d B.h (fun _ => True) ∗ own d B.ca (fun _ => True))

theorem scls_holds {X : Vec F S256x32 .f32} (h : HoldsXs c g 16 0 X) (hb) :
    sclOf (expoOf (shapeCast S256x32 X hb)) = sclsV c g := by
  funext y
  rw [reshape_self, sclOf_at, expoOf_at, h.all]
  rfl

theorem wp_rest {Q : PUnit → sProp 𝕄} :
    (PreSt d B g W : sProp 𝕄) ⊢ iprop((PostSt d B c g W -∗ Q ⟨⟩)
      -∗ wp frame (wpE' defs 𝒱 (d : Thread nD τ) bd Γ) E (rest (nD := nD) (τ := τ) (Λ := Λ) B c) Q) := by
  unfold PreSt rest
  iintro ⟨Hg, Hy, Hq, Hx, Hw, Ha, Hh, Hc⟩ Hk
  iapply (wp_chunks 𝒱 d bd E B c g 16 (Nat.le_refl _) _) $$ [Hg Hq Hx Ha Hh Hc]
  · unfold ChunkSt
    isplitl [Hg]; · iexact Hg
    isplitl [Hh]; · iexact Hh
    isplitl [Hc]; · iexact Hc
    isplitl [Hx]; · iapply (own_mono d B.xs fun _ _ => HoldsXs.zero) $$ Hx
    isplitl [Hq]; · iapply (own_mono d B.xc fun _ _ => HoldsX.zero) $$ Hq
    iapply (own_mono d B.xa fun _ _ => HoldsX.zero) $$ Ha
  unfold ChunkSt last
  iintro ⟨Hg, Hh, Hc, Hx, Hq, Ha⟩
  iapply (wp_load_own 𝒱 d bd E) $$ Hx
  iintro %x %hx Hx
  iapply (wp_load_own 𝒱 d bd E) $$ Hx
  iintro %_ %_ Hx
  rw [ld_all x]
  iapply (wp_store_own 𝒱 d bd E (ψ := (· = sclsV c g)) (fun X _ => (upd_all _ X).trans (scls_holds c g hx _))) $$ Hx
  iintro Hx
  iapply (wp_load_own 𝒱 d bd E) $$ Ha
  iintro %x' %hx' Ha
  iapply (wp_load_own 𝒱 d bd E) $$ Hw
  iintro %w' %hw' Hw
  rw [ld_all x', ld_all w']
  iapply (wp_load_own 𝒱 d bd E) $$ Hy
  iintro %_ %_ Hy
  iapply (wp_store_own 𝒱 d bd E (ψ := (· = product (actsV c g) W)) (fun X _ => (upd_all _ X).trans (by rw [hx'.all, hw']))) $$ Hy
  iintro Hy
  rw [wp_ret]; imodintro
  iapply Hk
  unfold PostSt
  isplitl [Hg]; · iexact Hg
  isplitl [Hy]; · iexact Hy
  isplitl [Hq]; · iapply (own_mono d B.xc fun _ h => h.all) $$ Hq
  isplitl [Hx]; · iexact Hx
  isplitl [Hw]; · iexact Hw
  isplitl [Ha]; · iapply (own_mono d B.xa fun _ _ => trivial) $$ Ha
  isplitl [Hh]; · iexact Hh
  iexact Hc

/-! ## The weights -/

variable (wc : Vec F S1408x4096 .fp8e4m3) (ws : Vec F S11x32 .f32)

/-- The buffers the weights are made in, after `s` rows of blocks and `n` blocks. -/
def FillSt (s n : ℕ) : sProp 𝕄 :=
  iprop(own d B.wc (· = wc) ∗ own d B.ws (· = ws) ∗ own d B.wa (HoldsW (weightsV wc ws) s n))

/-- The one element at row `s`, column `n`. -/
theorem first_ld (s n : ℕ) (hs : s < 11) (hn : n < 32) (i : S1x1.Idx) :
    ws (ix2 ⟨s + (i 0).val, by have h : (i 0).val < 1 := (i 0).isLt; omega⟩ ⟨n + (i 1).val, by have h : (i 1).val < 1 := (i 1).isLt; omega⟩)
      = ws (ix2 ⟨s, hs⟩ ⟨n, hn⟩) := by
  have h0 : (i 0).val < 1 := (i 0).isLt
  have h1 : (i 1).val < 1 := (i 1).isLt
  congr 2
  · exact Fin.ext (by show s + (i 0).val = s; omega)
  · exact Fin.ext (by show n + (i 1).val = n; omega)

theorem wp_fill (s r n : ℕ) (hs : s < 11) (hr : r = 128 * s) (hn : n < 32) (K : P sig nD τ Λ F α) :
    (FillSt d B wc ws s n : sProp 𝕄) ⊢ iprop((FillSt d B wc ws s (n + 1) -∗ wp frame (wpE' defs 𝒱 (d : Thread nD τ) bd Γ) E K Q)
      -∗ wp frame (wpE' defs 𝒱 (d : Thread nD τ) bd Γ) E (fill B s r n hs hr hn K) Q) := by
  unfold FillSt fill
  iintro ⟨Hc, Hs, Hw⟩ Hk
  iapply (wp_load_own 𝒱 d bd E) $$ Hs
  iintro %x %hx Hs
  iapply (wp_load_own 𝒱 d bd E) $$ Hc
  iintro %q %hq Hc
  subst hx hq hr
  iapply (wp_load_own 𝒱 d bd E) $$ Hw
  iintro %_ %_ Hw
  iapply (wp_store_own 𝒱 d bd E (fun X => HoldsW.step _ rfl (weights_holds hs hn (first_ld x s n hs hn _) (fun i y h0 h1 => congrArg q (funext fun b => Fin.ext (by
    match b with
    | ⟨0, _⟩ => exact h0.symm
    | ⟨1, _⟩ => exact h1.symm)))))) $$ Hw
  iintro Hw
  iapply Hk
  isplitl [Hc]; · iexact Hc
  isplitl [Hs]; · iexact Hs
  iexact Hw

theorem fills_zero (s r : ℕ) (hs : s < 11) (hr : r = 128 * s) (hn) (K : P sig nD τ Λ F α) : fills B s r hs hr 0 hn K = K := rfl

theorem fills_succ (s r n : ℕ) (hs : s < 11) (hr : r = 128 * s) (hn) (K : P sig nD τ Λ F α) :
    fills B s r hs hr (n + 1) hn K = fills B s r hs hr n (Nat.le_of_succ_le hn) (fill B s r n hs hr hn K) := rfl

theorem wp_fills (s r : ℕ) (hs : s < 11) (hr : r = 128 * s) : (n : ℕ) → (hn : n ≤ 32) → (K : P sig nD τ Λ F α) →
    (FillSt d B wc ws s 0 : sProp 𝕄) ⊢ iprop((FillSt d B wc ws s n -∗ wp frame (wpE' defs 𝒱 (d : Thread nD τ) bd Γ) E K Q)
      -∗ wp frame (wpE' defs 𝒱 (d : Thread nD τ) bd Γ) E (fills B s r hs hr n hn K) Q)
  | 0, _, K => by
    rw [fills_zero]
    iintro H Hk
    iapply Hk
    iexact H
  | n + 1, hn, K => by
    rw [fills_succ]
    iintro H Hk
    iapply (wp_fills s r hs hr n (Nat.le_of_succ_le hn) (fill B s r n hs hr hn K)) $$ H
    iintro H
    iapply (wp_fill 𝒱 d bd E B wc ws s r n hs hr hn K) $$ H
    iexact Hk

/-- What the first point starts from. -/
def PreSt0 : sProp 𝕄 :=
  iprop(own d B.wc (· = wc) ∗ own d B.ws (· = ws) ∗ own d B.gu (· = g) ∗ own d B.y (fun _ => True) ∗ own d B.xc (fun _ => True) ∗
    own d B.xs (fun _ => True) ∗ own d B.wa (fun _ => True) ∗ own d B.xa (fun _ => True) ∗ own d B.h (fun _ => True) ∗
    own d B.ca (fun _ => True))

theorem wp_first {Q : PUnit → sProp 𝕄} :
    (PreSt0 d B g wc ws : sProp 𝕄) ⊢ iprop((iprop(own d B.wc (· = wc) ∗ own d B.ws (· = ws) ∗ PostSt d B c g (weightsV wc ws)) -∗ Q ⟨⟩)
      -∗ wp frame (wpE' defs 𝒱 (d : Thread nD τ) bd Γ) E (first (nD := nD) (τ := τ) (Λ := Λ) B c) Q) := by
  unfold PreSt0 first
  iintro ⟨Hwc, Hws, Hg, Hy, Hq, Hx, Hw, Ha, Hh, Hc⟩ Hk
  iapply (Scf.wp_for_bind frame (wpE' defs 𝒱 (d : Thread nD τ) bd Γ) E _ _ _ rows_abs.1 PUnit.unit
    (fun t _ => trip (F := F) (nD := nD) (τ := τ) (Λ := Λ) B t) (fun n _ => FillSt d B wc ws n 0) (fun t _ => by
      unfold trip
      have e := row_eq t
      iintro H
      iapply (wp_fills 𝒱 d bd E B wc ws _ _ (row_lt t) (row_mul t) 32 (Nat.le_refl _) _) $$ [H]
      · rw [e]; iexact H
      rw [e]
      unfold FillSt
      iintro ⟨Hc, Hs, Hw⟩
      rw [wp_ret]; imodintro
      isplitl [Hc]; · iexact Hc
      isplitl [Hs]; · iexact Hs
      iapply (own_mono d B.wa fun _ h => h.next) $$ Hw)) $$ [Hwc Hws Hw]
  · unfold FillSt
    isplitl [Hwc]; · iexact Hwc
    isplitl [Hws]; · iexact Hws
    iapply (own_mono d B.wa fun _ _ => HoldsW.zero) $$ Hw
  iintro %_ H
  rw [show Scf.trips rows.lb rows.ub rows.st = 11 from rows_trips]
  unfold FillSt
  icases H with ⟨Hwc, Hws, Hw⟩
  iapply (wp_rest 𝒱 d bd E B c g (weightsV wc ws)) $$ [Hg Hy Hq Hx Hw Ha Hh Hc]
  · unfold PreSt
    isplitl [Hg]; · iexact Hg
    isplitl [Hy]; · iexact Hy
    isplitl [Hq]; · iexact Hq
    isplitl [Hx]; · iexact Hx
    isplitl [Hw]; · iapply (own_mono d B.wa fun _ h => h.all) $$ Hw
    isplitl [Ha]; · iexact Ha
    isplitl [Hh]; · iexact Hh
    iexact Hc
  iintro H
  iapply Hk
  isplitl [Hwc]; · iexact Hwc
  isplitl [Hws]; · iexact Hws
  iexact H

end Cert.Model
-- ==== Proof.KernelFrame.lean ====
/-
  The frame of the kernel: every point's body leaves its results and the widened weights, whatever the values are, and the
  pipeline brings them to the result arrays.
-/
module

public import proofs.«01_k».proof.Proof.Gen.Kernel.Frame
public import proofs.«01_k».proof.Proof.KernelBody
public import proofs.«01_k».proof.Proof.Triple
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Model Cert.Steps

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the grid. -/
def pt0 : Fin cfg0.N := ⟨0, by decide⟩

/-- The branch that widens the weights is taken at the first point and nowhere else. -/
theorem cond_iff : ∀ t : Fin cfg0.N, k0_cond1 (grid0.coords t) = 1#1 ↔ t.val = 0 := by decide

/-- The gates and ups of a point, the weights' codes and scales. -/
abbrev gu (c : Dev nD) (t : Fin cfg0.N) : Vec F S256x8192 .bf16 := iblk m c 0 t
abbrev wcB (c : Dev nD) (t : Fin cfg0.N) : Vec F S1408x4096 .fp8e4m3 := iblk m c 1 t
abbrev wsB (c : Dev nD) (t : Fin cfg0.N) : Vec F S11x32 .f32 := iblk m c 2 t

/-- The weights the first point leaves. -/
def wide (c : Dev nD) : Vec F S1408x4096 .bf16 := weightsV (wcB m c pt0) (wsB m c pt0)

/-- The four buffers the points share: the first at `φ`, the others at anything. -/
def shared (c : Dev nD) (φ : Vec F S1408x4096 .bf16 → Prop) : sProp 𝕄 :=
  iprop(own c (Memref.whole cc0_scratch0) φ ∗ own c (Memref.whole cc0_scratch1) (fun _ => True) ∗
    own c (Memref.whole cc0_scratch2) (fun _ => True) ∗ own c (Memref.whole cc0_scratch3) (fun _ => True))

theorem own_whole (c : Dev nD) (b : Ref sig .tc) :
    (iprop(∃ f : Buf (Elt F) ((c : Thread nD τ).loc b), ((c : Thread nD τ).loc b) ↦{fullShare} f) : sProp 𝕄) ⊢
      own c (Memref.whole b) (fun _ => True) := by
  iintro ⟨%f, H⟩
  iapply (own_mono c (Memref.whole b) (φ := (· = f)) (fun _ _ => trivial))
  iapply (own_of_owns c (Memref.whole b) f)
  rw [owns_whole (c : Thread nD τ) b fullShare f]
  iexact H

theorem whole_own (c : Dev nD) (b : Ref sig .tc) {φ : _ → Prop} :
    (own c (Memref.whole b) φ : sProp 𝕄) ⊢
    iprop(∃ f : Buf (Elt F) ((c : Thread nD τ).loc b), ((c : Thread nD τ).loc b) ↦{fullShare} f) := by
  iintro H
  icases (owns_of_own c (Memref.whole b)) $$ H with ⟨%X, %hX, H⟩
  iexists X
  rw [← owns_whole (c : Thread nD τ) b fullShare X]
  iexact H

/-- The proof data: after every point its input blocks stay and its results are the model's; between points the weights
    are the widened ones, once the first point has run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product (actsV cc (gu m c t)) (wide m c)
    | ⟨4, _⟩ => codesV cc (gu m c t)
    | ⟨5, _⟩ => sclsV cc (gu m c t)
  Φ t := iprop(shared c (fun X => t.val ≠ 0 → X = wide m c) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = product (actsV cc (gu m c t)) (wide m c) := by dsimp only [dats]
theorem after0_4 (c : Dev nD) (t : Fin cfg0.N) : (dats m 0 c).after 4 t = codesV cc (gu m c t) := by dsimp only [dats]
theorem after0_5 (c : Dev nD) (t : Fin cfg0.N) : (dats m 0 c).after 5 t = sclsV cc (gu m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem Φ_eq (c : Dev nD) (t : Fin (cfg0.N + 1)) :
    (dats m 0 c).Φ t = iprop(shared c (fun X => t.val ≠ 0 → X = wide m c) ∗ ∃ r, prngReg c r) := by dsimp only [dats]

theorem own_any (c : Dev nD) {sp : Space} {sh : Shape} {e : EltTy} (M : Memref sig .tc sp sh e) (X : sh.Idx → Elt F e) :
    (owns (c : Thread nD τ) M fullShare X : sProp 𝕄) ⊢ own c M (fun _ => True) :=
  (own_of_owns c M X).trans (own_mono c M fun _ _ => trivial)

theorem owns_of_eq (c : Dev nD) {sp : Space} {sh : Shape} {e : EltTy} (M : Memref sig .tc sp sh e) (X : sh.Idx → Elt F e) :
    (own c M (· = X) : sProp 𝕄) ⊢ owns (c : Thread nD τ) M fullShare X := by
  unfold Steps.own owns; exact .rfl

/-- What a point's buffers hold before its body, the weights at `φ`, -/
def Held (c : Dev nD) (B : Bufs sig) (g : Vec F S256x8192 .bf16) (wc : Vec F S1408x4096 .fp8e4m3) (ws : Vec F S11x32 .f32)
    (φ : Vec F S1408x4096 .bf16 → Prop) : sProp 𝕄 :=
  iprop(own c B.gu (· = g) ∗ own c B.wc (· = wc) ∗ own c B.ws (· = ws) ∗ own c B.y (fun _ => True) ∗ own c B.xc (fun _ => True) ∗
    own c B.xs (fun _ => True) ∗ own c B.wa φ ∗ own c B.xa (fun _ => True) ∗ own c B.h (fun _ => True) ∗ own c B.ca (fun _ => True))

/-- and after it. -/
def Left (c : Dev nD) (B : Bufs sig) (g : Vec F S256x8192 .bf16) (wc : Vec F S1408x4096 .fp8e4m3) (ws : Vec F S11x32 .f32)
    (W : Vec F S1408x4096 .bf16) : sProp 𝕄 :=
  iprop(own c B.wc (· = wc) ∗ own c B.ws (· = ws) ∗ PostSt c B cc g W)

/-- The body at a point past the first: the weights are already widened. -/
theorem sound_later (c : Dev nD) (i : grid0.Coords) (hi : k0_cond1 i ≠ 1#1) (B : Bufs sig) (g : Vec F S256x8192 .bf16)
    (wc : Vec F S1408x4096 .fp8e4m3) (ws : Vec F S11x32 .f32) (W : Vec F S1408x4096 .bf16) (K : PUnit → sProp 𝕄) :
    (Held c B g wc ws (· = W) : sProp 𝕄) ⊢ iprop((Left c B g wc ws W -∗ K ⟨⟩)
      -∗ wp frame (wpE (defs₀ (F := F)) Variants.none c none) Set.univ (body i B) K) := by
  rw [body_eq_rest i B hi]
  unfold Held Left
  iintro ⟨Hg, Hwc, Hws, Hy, Hq, Hx, Hw, Ha, Hh, Hc⟩ Hk
  iapply (wp_rest Variants.none c none Set.univ B cc g W) $$ [Hg Hy Hq Hx Hw Ha Hh Hc]
  · unfold PreSt
    isplitl [Hg]; · iexact Hg
    isplitl [Hy]; · iexact Hy
    isplitl [Hq]; · iexact Hq
    isplitl [Hx]; · iexact Hx
    isplitl [Hw]; · iexact Hw
    isplitl [Ha]; · iexact Ha
    isplitl [Hh]; · iexact Hh
    iexact Hc
  iintro H
  iapply Hk
  isplitl [Hwc]; · iexact Hwc
  isplitl [Hws]; · iexact Hws
  iexact H

/-- The body at the first point: it widens the weights. -/
theorem sound_first (c : Dev nD) (i : grid0.Coords) (hi : k0_cond1 i = 1#1) (B : Bufs sig) (g : Vec F S256x8192 .bf16)
    (wc : Vec F S1408x4096 .fp8e4m3) (ws : Vec F S11x32 .f32) (K : PUnit → sProp 𝕄) :
    (Held c B g wc ws (fun _ => True) : sProp 𝕄) ⊢ iprop((Left c B g wc ws (weightsV wc ws) -∗ K ⟨⟩)
      -∗ wp frame (wpE (defs₀ (F := F)) Variants.none c none) Set.univ (body i B) K) := by
  rw [body_eq_first i B hi]
  unfold Held Left
  iintro ⟨Hg, Hwc, Hws, Hy, Hq, Hx, Hw, Ha, Hh, Hc⟩ Hk
  iapply (wp_first Variants.none c none Set.univ B cc g wc ws) $$ [Hg Hwc Hws Hy Hq Hx Hw Ha Hh Hc]
  · unfold PreSt0
    isplitl [Hwc]; · iexact Hwc
    isplitl [Hws]; · iexact Hws
    isplitl [Hg]; · iexact Hg
    isplitl [Hy]; · iexact Hy
    isplitl [Hq]; · iexact Hq
    isplitl [Hx]; · iexact Hx
    isplitl [Hw]; · iexact Hw
    isplitl [Ha]; · iexact Ha
    isplitl [Hh]; · iexact Hh
    iexact Hc
  iexact Hk

/-- The buffers of point `t`. -/
abbrev bufsAt (t : Fin cfg0.N) : Bufs sig :=
  bufs (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)

theorem bodyAt_eq (t : Fin cfg0.N) : bodyAt0 (F := F) t = body (grid0.coords t) (bufsAt t) := rfl

/-- The body at any point, the two cases in one. -/
theorem sound_at (c : Dev nD) (t : Fin cfg0.N) (K : PUnit → sProp 𝕄) :
    (Held c (bufsAt t) (gu m c t) (wcB m c t) (wsB m c t) (fun X => t.val ≠ 0 → X = wide m c) : sProp 𝕄) ⊢
      iprop((Left c (bufsAt t) (gu m c t) (wcB m c t) (wsB m c t) (wide m c) -∗ K ⟨⟩)
      -∗ wp frame (wpE (defs₀ (F := F)) Variants.none c none) Set.univ (bodyAt0 t) K) := by
  rw [bodyAt_eq]
  by_cases h : t.val = 0
  · obtain rfl : t = pt0 := Fin.ext h
    have e := sound_first c (grid0.coords pt0) ((cond_iff pt0).2 h) (bufsAt pt0) (gu m c pt0) (wcB m c pt0) (wsB m c pt0) K
    refine (?_ : _ ⊢ _).trans e
    unfold Held
    iintro ⟨Hg, Hwc, Hws, Hy, Hq, Hx, Hw, Ha⟩
    isplitl [Hg]; · iexact Hg
    isplitl [Hwc]; · iexact Hwc
    isplitl [Hws]; · iexact Hws
    isplitl [Hy]; · iexact Hy
    isplitl [Hq]; · iexact Hq
    isplitl [Hx]; · iexact Hx
    isplitl [Hw]
    · iapply (own_mono c _ (fun _ _ => trivial)) $$ Hw
    iexact Ha
  · have e := sound_later c (grid0.coords t) (fun k => h ((cond_iff t).1 k)) (bufsAt t) (gu m c t) (wcB m c t) (wsB m c t)
      (wide m c) K
    refine (?_ : _ ⊢ _).trans e
    unfold Held
    iintro ⟨Hg, Hwc, Hws, Hy, Hq, Hx, Hw, Ha⟩
    isplitl [Hg]; · iexact Hg
    isplitl [Hwc]; · iexact Hwc
    isplitl [Hws]; · iexact Hws
    isplitl [Hy]; · iexact Hy
    isplitl [Hq]; · iexact Hq
    isplitl [Hx]; · iexact Hx
    isplitl [Hw]
    · iapply (own_mono c _ (fun _ k => k h)) $$ Hw
    iexact Ha

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).owesAt () t.succ = (dats m 0 c).owesAt () t.castSucc from rfl, Φ_eq, Φ_eq,
    after0_0, after0_1, after0_2, after0_3, after0_4, after0_5]
  unfold shared
  iintro ⟨⟨⟨Hw, Ha, Hh, Hc⟩, Hr⟩, Ho, ⟨%d0, H0⟩, ⟨%d1, H1⟩, ⟨%d2, H2⟩, ⟨%d3, H3⟩, ⟨%d4, H4⟩, ⟨%d5, H5⟩⟩
  iapply (sound_at m c t) $$ [Hw Ha Hh Hc H0 H1 H2 H3 H4 H5]
  · unfold Held
    isplitl [H0]; · iapply (own_of_owns c (st0_0 t) _) $$ H0
    isplitl [H1]; · iapply (own_of_owns c (st0_1 t) _) $$ H1
    isplitl [H2]; · iapply (own_of_owns c (st0_2 t) _) $$ H2
    isplitl [H3]; · iapply (own_any c (st0_3 t) _) $$ H3
    isplitl [H4]; · iapply (own_any c (st0_4 t) _) $$ H4
    isplitl [H5]; · iapply (own_any c (st0_5 t) _) $$ H5
    isplitl [Hw]; · iexact Hw
    isplitl [Ha]; · iexact Ha
    isplitl [Hh]; · iexact Hh
    iexact Hc
  unfold Left PostSt
  iintro ⟨H1, H2, H0, H3, H4, H5, Hw, Ha, Hh, Hc⟩
  isplitl [Hw Ha Hh Hc Hr]
  · isplitl [Hw Ha Hh Hc]
    · isplitl [Hw]
      · iapply (own_mono c (Memref.whole cc0_scratch0) (fun _ e _ => e)) $$ Hw
      isplitl [Ha]; · iexact Ha
      isplitl [Hh]; · iexact Hh
      iexact Hc
    iexact Hr
  isplitl [Ho]; · iexact Ho
  isplitl [H0]; · iapply (owns_of_eq c (st0_0 t) _) $$ H0
  isplitl [H1]; · iapply (owns_of_eq c (st0_1 t) _) $$ H1
  isplitl [H2]; · iapply (owns_of_eq c (st0_2 t) _) $$ H2
  isplitl [H3]; · iapply (owns_of_eq c (st0_3 t) _) $$ H3
  isplitl [H4]; · iapply (owns_of_eq c (st0_4 t) _) $$ H4
  iapply (owns_of_eq c (st0_5 t) _) $$ H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the shared buffers hold anything. -/
theorem enter (c : Dev nD) : (Pipeline.ΦA spec0 c : sProp 𝕄) ⊢ (dats m 0 c).Φ 0 := by
  rw [Φ_eq]
  unfold Pipeline.ΦA shared
  rw [scopedRest0_eq]
  iintro ⟨⟨H0, H1, H2, H3⟩, Hr⟩
  isplitl [H0 H1 H2 H3]
  · isplitl [H0]
    · iapply (own_mono c (Memref.whole cc0_scratch0) (φ := fun _ => True) (fun _ _ k => absurd rfl k))
      iapply (own_whole c cc0_scratch0) $$ H0
    isplitl [H1]; · iapply (own_whole c cc0_scratch1) $$ H1
    isplitl [H2]; · iapply (own_whole c cc0_scratch2) $$ H2
    iapply (own_whole c cc0_scratch3) $$ H3
  iexact Hr

/-- After the last point what they hold is forgotten. -/
theorem leave (c : Dev nD) : (dats m 0 c).Φ (Fin.last cfg0.N) ⊢ (Pipeline.ΦA spec0 c : sProp 𝕄) := by
  rw [Φ_eq]
  unfold Pipeline.ΦA shared
  rw [scopedRest0_eq]
  iintro ⟨⟨H0, H1, H2, H3⟩, Hr⟩
  isplitl [H0 H1 H2 H3]
  · isplitl [H0]; · iapply (whole_own c cc0_scratch0) $$ H0
    isplitl [H1]; · iapply (whole_own c cc0_scratch1) $$ H1
    isplitl [H2]; · iapply (whole_own c cc0_scratch2) $$ H2
    iapply (whole_own c cc0_scratch3) $$ H3
  iexact Hr

set_option backward.isDefEq.respectTransparency.types false in
set_option maxHeartbeats 800000 in
/-- The run: every array of the pipeline ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.KernelIdealBody.lean ====
/-
  The printed body is the sixteen chunks written as loops: each chunk's equation is an unfolding.
-/
module

public import proofs.«01_k».proof.KernelIdeal
public import proofs.«01_k».proof.Proof.Model
public import Idealize.ShloMosaic.Lib.Pipeline.Regions

@[expose] public section
set_option maxRecDepth 65536
noncomputable section
namespace Cert.KernelIdeal.Run
open Idealize.ShloMosaic Idealize.SL.Sem Cert.Model
open K0.Facts₀
variable {F : FTy → Type} [FloatOps F] [Named F] [Facts]

/-- The buffers of a call. -/
abbrev bufs (arg1 : Memref sig .tc .vmem S256x8192 .bf16) (harg1 : arg1.IsWhole) (arg2 : Memref sig .tc .vmem S1408x4096 .fp8e4m3) (harg2 : arg2.IsWhole) (arg3 : Memref sig .tc .smem S11x32 .f32) (harg3 : arg3.IsWhole) (arg4 : Memref sig .tc .vmem S256x1408 .bf16) (harg4 : arg4.IsWhole) (arg5 : Memref sig .tc .vmem S256x4096 .fp8e4m3) (harg5 : arg5.IsWhole) (arg6 : Memref sig .tc .vmem S256x32 .f32) (harg6 : arg6.IsWhole) (arg7 : Memref sig .tc .vmem S1408x4096 .bf16) (harg7 : arg7.IsWhole) (arg8 : Memref sig .tc .vmem S256x4096 .bf16) (harg8 : arg8.IsWhole) (arg9 : Memref sig .tc .vmem S256x256 .f32) (harg9 : arg9.IsWhole) (arg10 : Memref sig .tc .vmem S16x128 .f32) (harg10 : arg10.IsWhole) : Bufs sig :=
  ⟨arg1, harg1, arg2, harg2, arg3, harg3, arg4, harg4, arg5, harg5, arg6, harg6, arg7, harg7, arg8, harg8, arg9, harg9, arg10, harg10⟩

/-- The printed body over a record of buffers. -/
def body (i : grid0.Coords) (B : Bufs sig) : Prog (TpuEff nD τ sig (Elt F) Λ₀ .tc) PUnit :=
  cc0_swiglu_down i B.gu B.gu_whole B.wc B.wc_whole B.ws B.ws_whole B.y B.y_whole B.xc B.xc_whole B.xs B.xs_whole B.wa B.wa_whole B.xa B.xa_whole B.h B.h_whole B.ca B.ca_whole

/-- The body past its first branch, with the equation that says so. -/
def tail0 (i : grid0.Coords) (B : Bufs sig) : {K : Prog (TpuEff nD τ sig (Elt F) Λ₀ .tc) PUnit //
   k0_cond1 i ≠ 1#1 → body (F := F) i B = K} := by
  apply Subtype.mk
  intro hn
  unfold body cc0_swiglu_down k0_part562 k0_part9
  simp only [bind, pure, dif_neg hn]
  exact rfl

theorem bind_assoc' {E : Type → Type} {α β γ : Type} (p : Prog E α) (f : α → Prog E β) (g : β → Prog E γ) :
    (p.bind f).bind g = p.bind fun a => (f a).bind g := Prog.bind_assoc p f g
/-- The constant the gates are multiplied by. -/
abbrev cc : F .f32 := Named.named κ "neg_log2e" 0xBFB8AA3B#32

theorem body_first (i : grid0.Coords) (B : Bufs sig) (h : k0_cond1 i = 1#1) :
    body (F := F) i B =
      (Scf.Loop.for rows rows_abs.1 PUnit.unit fun t _ => trip (F := F) (nD := nD) (τ := τ) (Λ := Λ₀) B t).bind fun _ => (tail0 i B).1 := by
  unfold body cc0_swiglu_down k0_part562 k0_part9
  simp only [bind, pure, dif_pos h]
  rw [bind_assoc', bind_assoc', bind_assoc']
  refine congrArg (fun p => Prog.bind p fun _ => (tail0 (F := F) i B).1) ?_
  refine congrArg (fun b => Scf.Loop.for rows rows_abs.1 PUnit.unit b) ?_
  funext t _
  chain_rfl

/-- What is left of a program after `n` loads and stores, whatever they read. -/
def skip {α : Type} : ℕ → Prog (TpuEff nD τ sig (Elt F) Λ₀ .tc) α → Prog (TpuEff nD τ sig (Elt F) Λ₀ .tc) α
  | 0, p => p
  | n + 1, .op (.load m r h) k => skip n (k fun _ => Classical.arbitrary _)
  | n + 1, .op (.store m r w M h hm) k => skip n (k ⟨⟩)
  | _ + 1, p => p

/-- The program after `n` chunks. -/
def tail (i : grid0.Coords) (B : Bufs sig) (n : ℕ) : Prog (TpuEff nD τ sig (Elt F) Λ₀ .tc) PUnit := skip (337 * n) (tail0 i B).1

theorem tail_succ (i : grid0.Coords) (B : Bufs sig) : (n : ℕ) → (h : n < 16) → tail (F := F) i B n = chunk B cc n h (tail i B (n + 1))
  | 0, _ => by chain_rfl
  | 1, _ => by chain_rfl
  | 2, _ => by chain_rfl
  | 3, _ => by chain_rfl
  | 4, _ => by chain_rfl
  | 5, _ => by chain_rfl
  | 6, _ => by chain_rfl
  | 7, _ => by chain_rfl
  | 8, _ => by chain_rfl
  | 9, _ => by chain_rfl
  | 10, _ => by chain_rfl
  | 11, _ => by chain_rfl
  | 12, _ => by chain_rfl
  | 13, _ => by chain_rfl
  | 14, _ => by chain_rfl
  | 15, _ => by chain_rfl
  | _ + 16, h => absurd h (by omega)

theorem tail_last (i : grid0.Coords) (B : Bufs sig) : tail (F := F) i B 16 = last B := by chain_rfl

theorem tail_chunks (i : grid0.Coords) (B : Bufs sig) : (n : ℕ) → (h : n ≤ 16) → tail (F := F) i B 0 = chunks B cc n h (tail i B n)
  | 0, _ => rfl
  | n + 1, h => (tail_chunks i B n (Nat.le_of_succ_le h)).trans (congrArg (chunks B cc n _) (tail_succ i B n h))

theorem tail_eq (i : grid0.Coords) (B : Bufs sig) : (tail0 (F := F) i B).1 = rest B cc :=
  (tail_chunks i B 16 (Nat.le_refl _)).trans (congrArg (chunks B cc 16 _) (tail_last i B))

/-- The body at a point that is not the first. -/
theorem body_eq_rest (i : grid0.Coords) (B : Bufs sig) (h : k0_cond1 i ≠ 1#1) : body (F := F) i B = rest B cc :=
  ((tail0 i B).2 h).trans (tail_eq i B)

/-- The body at the first point. -/
theorem body_eq_first (i : grid0.Coords) (B : Bufs sig) (h : k0_cond1 i = 1#1) : body (F := F) i B = first B cc :=
  (body_first i B h).trans (congrArg (fun K => Prog.bind _ fun _ => K) (tail_eq i B))

end Cert.KernelIdeal.Run
-- ==== Proof.KernelIdealFrame.lean ====
/-
  The frame of the kernel over the extended reals' constants: every point's body leaves its results and the widened weights, whatever the values are, and the
  pipeline brings them to the result arrays.
-/
module

public import proofs.«01_k».proof.Proof.Gen.KernelIdeal.Frame
public import proofs.«01_k».proof.Proof.KernelIdealBody
public import proofs.«01_k».proof.Proof.Triple
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Model Cert.Steps

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point of the grid. -/
def pt0 : Fin cfg0.N := ⟨0, by decide⟩

/-- The branch that widens the weights is taken at the first point and nowhere else. -/
theorem cond_iff : ∀ t : Fin cfg0.N, k0_cond1 (grid0.coords t) = 1#1 ↔ t.val = 0 := by decide

/-- The gates and ups of a point, the weights' codes and scales. -/
abbrev gu (c : Dev nD) (t : Fin cfg0.N) : Vec F S256x8192 .bf16 := iblk m c 0 t
abbrev wcB (c : Dev nD) (t : Fin cfg0.N) : Vec F S1408x4096 .fp8e4m3 := iblk m c 1 t
abbrev wsB (c : Dev nD) (t : Fin cfg0.N) : Vec F S11x32 .f32 := iblk m c 2 t

/-- The weights the first point leaves. -/
def wide (c : Dev nD) : Vec F S1408x4096 .bf16 := weightsV (wcB m c pt0) (wsB m c pt0)

/-- The four buffers the points share: the first at `φ`, the others at anything. -/
def shared (c : Dev nD) (φ : Vec F S1408x4096 .bf16 → Prop) : sProp 𝕄 :=
  iprop(own c (Memref.whole cc0_scratch0) φ ∗ own c (Memref.whole cc0_scratch1) (fun _ => True) ∗
    own c (Memref.whole cc0_scratch2) (fun _ => True) ∗ own c (Memref.whole cc0_scratch3) (fun _ => True))

theorem own_whole (c : Dev nD) (b : Ref sig .tc) :
    (iprop(∃ f : Buf (Elt F) ((c : Thread nD τ).loc b), ((c : Thread nD τ).loc b) ↦{fullShare} f) : sProp 𝕄) ⊢
      own c (Memref.whole b) (fun _ => True) := by
  iintro ⟨%f, H⟩
  iapply (own_mono c (Memref.whole b) (φ := (· = f)) (fun _ _ => trivial))
  iapply (own_of_owns c (Memref.whole b) f)
  rw [owns_whole (c : Thread nD τ) b fullShare f]
  iexact H

theorem whole_own (c : Dev nD) (b : Ref sig .tc) {φ : _ → Prop} :
    (own c (Memref.whole b) φ : sProp 𝕄) ⊢
    iprop(∃ f : Buf (Elt F) ((c : Thread nD τ).loc b), ((c : Thread nD τ).loc b) ↦{fullShare} f) := by
  iintro H
  icases (owns_of_own c (Memref.whole b)) $$ H with ⟨%X, %hX, H⟩
  iexists X
  rw [← owns_whole (c : Thread nD τ) b fullShare X]
  iexact H

/-- The proof data: after every point its input blocks stay and its results are the model's; between points the weights
    are the widened ones, once the first point has run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => product (actsV cc (gu m c t)) (wide m c)
    | ⟨4, _⟩ => codesV cc (gu m c t)
    | ⟨5, _⟩ => sclsV cc (gu m c t)
  Φ t := iprop(shared c (fun X => t.val ≠ 0 → X = wide m c) ∗ ∃ r, prngReg c r)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = product (actsV cc (gu m c t)) (wide m c) := by dsimp only [dats]
theorem after0_4 (c : Dev nD) (t : Fin cfg0.N) : (dats m 0 c).after 4 t = codesV cc (gu m c t) := by dsimp only [dats]
theorem after0_5 (c : Dev nD) (t : Fin cfg0.N) : (dats m 0 c).after 5 t = sclsV cc (gu m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem Φ_eq (c : Dev nD) (t : Fin (cfg0.N + 1)) :
    (dats m 0 c).Φ t = iprop(shared c (fun X => t.val ≠ 0 → X = wide m c) ∗ ∃ r, prngReg c r) := by dsimp only [dats]

theorem own_any (c : Dev nD) {sp : Space} {sh : Shape} {e : EltTy} (M : Memref sig .tc sp sh e) (X : sh.Idx → Elt F e) :
    (owns (c : Thread nD τ) M fullShare X : sProp 𝕄) ⊢ own c M (fun _ => True) :=
  (own_of_owns c M X).trans (own_mono c M fun _ _ => trivial)

theorem owns_of_eq (c : Dev nD) {sp : Space} {sh : Shape} {e : EltTy} (M : Memref sig .tc sp sh e) (X : sh.Idx → Elt F e) :
    (own c M (· = X) : sProp 𝕄) ⊢ owns (c : Thread nD τ) M fullShare X := by
  unfold Steps.own owns; exact .rfl

/-- What a point's buffers hold before its body, the weights at `φ`, -/
def Held (c : Dev nD) (B : Bufs sig) (g : Vec F S256x8192 .bf16) (wc : Vec F S1408x4096 .fp8e4m3) (ws : Vec F S11x32 .f32)
    (φ : Vec F S1408x4096 .bf16 → Prop) : sProp 𝕄 :=
  iprop(own c B.gu (· = g) ∗ own c B.wc (· = wc) ∗ own c B.ws (· = ws) ∗ own c B.y (fun _ => True) ∗ own c B.xc (fun _ => True) ∗
    own c B.xs (fun _ => True) ∗ own c B.wa φ ∗ own c B.xa (fun _ => True) ∗ own c B.h (fun _ => True) ∗ own c B.ca (fun _ => True))

/-- and after it. -/
def Left (c : Dev nD) (B : Bufs sig) (g : Vec F S256x8192 .bf16) (wc : Vec F S1408x4096 .fp8e4m3) (ws : Vec F S11x32 .f32)
    (W : Vec F S1408x4096 .bf16) : sProp 𝕄 :=
  iprop(own c B.wc (· = wc) ∗ own c B.ws (· = ws) ∗ PostSt c B cc g W)

/-- The body at a point past the first: the weights are already widened. -/
theorem sound_later (c : Dev nD) (i : grid0.Coords) (hi : k0_cond1 i ≠ 1#1) (B : Bufs sig) (g : Vec F S256x8192 .bf16)
    (wc : Vec F S1408x4096 .fp8e4m3) (ws : Vec F S11x32 .f32) (W : Vec F S1408x4096 .bf16) (K : PUnit → sProp 𝕄) :
    (Held c B g wc ws (· = W) : sProp 𝕄) ⊢ iprop((Left c B g wc ws W -∗ K ⟨⟩)
      -∗ wp frame (wpE (defs₀ (F := F)) Variants.none c none) Set.univ (body i B) K) := by
  rw [body_eq_rest i B hi]
  unfold Held Left
  iintro ⟨Hg, Hwc, Hws, Hy, Hq, Hx, Hw, Ha, Hh, Hc⟩ Hk
  iapply (wp_rest Variants.none c none Set.univ B cc g W) $$ [Hg Hy Hq Hx Hw Ha Hh Hc]
  · unfold PreSt
    isplitl [Hg]; · iexact Hg
    isplitl [Hy]; · iexact Hy
    isplitl [Hq]; · iexact Hq
    isplitl [Hx]; · iexact Hx
    isplitl [Hw]; · iexact Hw
    isplitl [Ha]; · iexact Ha
    isplitl [Hh]; · iexact Hh
    iexact Hc
  iintro H
  iapply Hk
  isplitl [Hwc]; · iexact Hwc
  isplitl [Hws]; · iexact Hws
  iexact H

/-- The body at the first point: it widens the weights. -/
theorem sound_first (c : Dev nD) (i : grid0.Coords) (hi : k0_cond1 i = 1#1) (B : Bufs sig) (g : Vec F S256x8192 .bf16)
    (wc : Vec F S1408x4096 .fp8e4m3) (ws : Vec F S11x32 .f32) (K : PUnit → sProp 𝕄) :
    (Held c B g wc ws (fun _ => True) : sProp 𝕄) ⊢ iprop((Left c B g wc ws (weightsV wc ws) -∗ K ⟨⟩)
      -∗ wp frame (wpE (defs₀ (F := F)) Variants.none c none) Set.univ (body i B) K) := by
  rw [body_eq_first i B hi]
  unfold Held Left
  iintro ⟨Hg, Hwc, Hws, Hy, Hq, Hx, Hw, Ha, Hh, Hc⟩ Hk
  iapply (wp_first Variants.none c none Set.univ B cc g wc ws) $$ [Hg Hwc Hws Hy Hq Hx Hw Ha Hh Hc]
  · unfold PreSt0
    isplitl [Hwc]; · iexact Hwc
    isplitl [Hws]; · iexact Hws
    isplitl [Hg]; · iexact Hg
    isplitl [Hy]; · iexact Hy
    isplitl [Hq]; · iexact Hq
    isplitl [Hx]; · iexact Hx
    isplitl [Hw]; · iexact Hw
    isplitl [Ha]; · iexact Ha
    isplitl [Hh]; · iexact Hh
    iexact Hc
  iexact Hk

/-- The buffers of point `t`. -/
abbrev bufsAt (t : Fin cfg0.N) : Bufs sig :=
  bufs (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)

theorem bodyAt_eq (t : Fin cfg0.N) : bodyAt0 (F := F) t = body (grid0.coords t) (bufsAt t) := rfl

/-- The body at any point, the two cases in one. -/
theorem sound_at (c : Dev nD) (t : Fin cfg0.N) (K : PUnit → sProp 𝕄) :
    (Held c (bufsAt t) (gu m c t) (wcB m c t) (wsB m c t) (fun X => t.val ≠ 0 → X = wide m c) : sProp 𝕄) ⊢
      iprop((Left c (bufsAt t) (gu m c t) (wcB m c t) (wsB m c t) (wide m c) -∗ K ⟨⟩)
      -∗ wp frame (wpE (defs₀ (F := F)) Variants.none c none) Set.univ (bodyAt0 t) K) := by
  rw [bodyAt_eq]
  by_cases h : t.val = 0
  · obtain rfl : t = pt0 := Fin.ext h
    have e := sound_first c (grid0.coords pt0) ((cond_iff pt0).2 h) (bufsAt pt0) (gu m c pt0) (wcB m c pt0) (wsB m c pt0) K
    refine (?_ : _ ⊢ _).trans e
    unfold Held
    iintro ⟨Hg, Hwc, Hws, Hy, Hq, Hx, Hw, Ha⟩
    isplitl [Hg]; · iexact Hg
    isplitl [Hwc]; · iexact Hwc
    isplitl [Hws]; · iexact Hws
    isplitl [Hy]; · iexact Hy
    isplitl [Hq]; · iexact Hq
    isplitl [Hx]; · iexact Hx
    isplitl [Hw]
    · iapply (own_mono c _ (fun _ _ => trivial)) $$ Hw
    iexact Ha
  · have e := sound_later c (grid0.coords t) (fun k => h ((cond_iff t).1 k)) (bufsAt t) (gu m c t) (wcB m c t) (wsB m c t)
      (wide m c) K
    refine (?_ : _ ⊢ _).trans e
    unfold Held
    iintro ⟨Hg, Hwc, Hws, Hy, Hq, Hx, Hw, Ha⟩
    isplitl [Hg]; · iexact Hg
    isplitl [Hwc]; · iexact Hwc
    isplitl [Hws]; · iexact Hws
    isplitl [Hy]; · iexact Hy
    isplitl [Hq]; · iexact Hq
    isplitl [Hx]; · iexact Hx
    isplitl [Hw]
    · iapply (own_mono c _ (fun _ k => k h)) $$ Hw
    iexact Ha

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).owesAt () t.succ = (dats m 0 c).owesAt () t.castSucc from rfl, Φ_eq, Φ_eq,
    after0_0, after0_1, after0_2, after0_3, after0_4, after0_5]
  unfold shared
  iintro ⟨⟨⟨Hw, Ha, Hh, Hc⟩, Hr⟩, Ho, ⟨%d0, H0⟩, ⟨%d1, H1⟩, ⟨%d2, H2⟩, ⟨%d3, H3⟩, ⟨%d4, H4⟩, ⟨%d5, H5⟩⟩
  iapply (sound_at m c t) $$ [Hw Ha Hh Hc H0 H1 H2 H3 H4 H5]
  · unfold Held
    isplitl [H0]; · iapply (own_of_owns c (st0_0 t) _) $$ H0
    isplitl [H1]; · iapply (own_of_owns c (st0_1 t) _) $$ H1
    isplitl [H2]; · iapply (own_of_owns c (st0_2 t) _) $$ H2
    isplitl [H3]; · iapply (own_any c (st0_3 t) _) $$ H3
    isplitl [H4]; · iapply (own_any c (st0_4 t) _) $$ H4
    isplitl [H5]; · iapply (own_any c (st0_5 t) _) $$ H5
    isplitl [Hw]; · iexact Hw
    isplitl [Ha]; · iexact Ha
    isplitl [Hh]; · iexact Hh
    iexact Hc
  unfold Left PostSt
  iintro ⟨H1, H2, H0, H3, H4, H5, Hw, Ha, Hh, Hc⟩
  isplitl [Hw Ha Hh Hc Hr]
  · isplitl [Hw Ha Hh Hc]
    · isplitl [Hw]
      · iapply (own_mono c (Memref.whole cc0_scratch0) (fun _ e _ => e)) $$ Hw
      isplitl [Ha]; · iexact Ha
      isplitl [Hh]; · iexact Hh
      iexact Hc
    iexact Hr
  isplitl [Ho]; · iexact Ho
  isplitl [H0]; · iapply (owns_of_eq c (st0_0 t) _) $$ H0
  isplitl [H1]; · iapply (owns_of_eq c (st0_1 t) _) $$ H1
  isplitl [H2]; · iapply (owns_of_eq c (st0_2 t) _) $$ H2
  isplitl [H3]; · iapply (owns_of_eq c (st0_3 t) _) $$ H3
  isplitl [H4]; · iapply (owns_of_eq c (st0_4 t) _) $$ H4
  iapply (owns_of_eq c (st0_5 t) _) $$ H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point the shared buffers hold anything. -/
theorem enter (c : Dev nD) : (Pipeline.ΦA spec0 c : sProp 𝕄) ⊢ (dats m 0 c).Φ 0 := by
  rw [Φ_eq]
  unfold Pipeline.ΦA shared
  rw [scopedRest0_eq]
  iintro ⟨⟨H0, H1, H2, H3⟩, Hr⟩
  isplitl [H0 H1 H2 H3]
  · isplitl [H0]
    · iapply (own_mono c (Memref.whole cc0_scratch0) (φ := fun _ => True) (fun _ _ k => absurd rfl k))
      iapply (own_whole c cc0_scratch0) $$ H0
    isplitl [H1]; · iapply (own_whole c cc0_scratch1) $$ H1
    isplitl [H2]; · iapply (own_whole c cc0_scratch2) $$ H2
    iapply (own_whole c cc0_scratch3) $$ H3
  iexact Hr

/-- After the last point what they hold is forgotten. -/
theorem leave (c : Dev nD) : (dats m 0 c).Φ (Fin.last cfg0.N) ⊢ (Pipeline.ΦA spec0 c : sProp 𝕄) := by
  rw [Φ_eq]
  unfold Pipeline.ΦA shared
  rw [scopedRest0_eq]
  iintro ⟨⟨H0, H1, H2, H3⟩, Hr⟩
  isplitl [H0 H1 H2 H3]
  · isplitl [H0]; · iapply (whole_own c cc0_scratch0) $$ H0
    isplitl [H1]; · iapply (whole_own c cc0_scratch1) $$ H1
    isplitl [H2]; · iapply (whole_own c cc0_scratch2) $$ H2
    iapply (whole_own c cc0_scratch3) $$ H3
  iexact Hr

set_option backward.isDefEq.respectTransparency.types false in
set_option maxHeartbeats 800000 in
/-- The run: every array of the pipeline ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run

end
-- ==== Proof.Preserves.lean ====
/-
  The constant the gates are multiplied by, in the program over the extended reals, is the named one.
-/
module

public import proofs.«01_k».proof.Defs

@[expose] public section

noncomputable section

namespace Cert.Values

open Idealize.ShloMosaic

theorem preserves : Cert.preserves_Kernel_KernelIdeal :=
  IdealRules.named_const.statement Cert.KernelIdeal.κ "neg_log2e" .f32 0xBFB8AA3B#32 ((-((Real.log 2)⁻¹) : ℝ) : EReal) rfl

end Cert.Values

end
-- ==== Proof.Ladder.lean ====
/-
  The exponent found by comparing with powers of two is the one found by the logarithm: over the extended reals the two scales,
  and their inverses, are the same.
-/
module

public import proofs.«01_k».proof.Proof.Values
public import Idealize.ShloMosaic.PureOps.Ideal.Laws
public import Idealize.ShloMosaic.Lib.IdealHost

@[expose] public section

noncomputable section

namespace Cert.Model

open Idealize.ShloMosaic

/-- The power of two whose exponent field is `n`, zero at `n = 0`. -/
def pw (n : ℕ) : EReal := if n = 0 then 0 else (((2 : ℝ) ^ ((n : ℤ) - 127) : ℝ) : EReal)

theorem pw_pos {n : ℕ} (h : n ≠ 0) : pw n = (((2 : ℝ) ^ ((n : ℤ) - 127) : ℝ) : EReal) := if_neg h

theorem pw_mono : Monotone pw := by
  intro a b h
  unfold pw
  split
  · split
    · exact le_rfl
    · exact_mod_cast (zpow_pos (by norm_num : (0 : ℝ) < 2) _).le
  · rw [if_neg (by omega)]
    exact_mod_cast zpow_le_zpow_right₀ (by norm_num : (1 : ℝ) ≤ 2) (by omega : (a : ℤ) - 127 ≤ (b : ℤ) - 127)

theorem pw_bits (n : ℕ) (h : n ≤ 254) :
    Ideal.ofBits .f32 (IntOp.shli .vector (BitVec.ofNat 32 n) 23#32) = pw n := by
  have e : (IntOp.shli .vector (BitVec.ofNat 32 n) 23#32).toNat = n * 2 ^ 23 := by
    show (BitVec.ofNat 32 n <<< 23).toNat = _
    rw [BitVec.toNat_shiftLeft, BitVec.toNat_ofNat, Nat.shiftLeft_eq]
    omega
  generalize IntOp.shli .vector (BitVec.ofNat 32 n) 23#32 = b at e
  have h1 : (b.extractLsb' 23 8).toNat = n := by
    rw [BitVec.extractLsb'_toNat, e, Nat.shiftRight_eq_div_pow]; omega
  have h0 : (b.extractLsb' 0 23).toNat = 0 := by
    rw [BitVec.extractLsb'_toNat, e, Nat.shiftRight_eq_div_pow]; omega
  have hs : b.extractLsb' 31 1 = 0#1 := by
    apply BitVec.eq_of_toNat_eq
    rw [BitVec.extractLsb'_toNat, e, Nat.shiftRight_eq_div_pow]
    show n * 2 ^ 23 / 2 ^ 31 % 2 ^ 1 = 0
    omega
  show Ideal.ieee 8 23 b = _
  unfold Ideal.ieee pw
  simp only [h1, h0, show (8 + 23 : ℕ) = 31 from rfl, hs]
  rw [if_neg (by omega)]
  by_cases hn : n = 0
  · simp [hn]
  · rw [if_neg hn, if_neg hn]
    congr 1
    have : ((2 ^ 23 + 0 : ℕ) : ℝ) = (2 : ℝ) ^ (23 : ℤ) := by norm_num
    rw [this]
    have h2 : ((0#1 : BitVec 1) == 1#1) = false := rfl
    rw [h2]
    simp only [Bool.false_eq_true, if_false, one_mul]
    rw [← zpow_add₀ (by norm_num : (2 : ℝ) ≠ 0)]
    congr 1
    norm_num

/-- Where the ladder stands when `R` is what its remaining steps add up to. -/
def Stands (t : EReal) (R : ℕ) (n : BitVec 32) : Prop :=
  ∃ k : ℕ, n = BitVec.ofNat 32 k ∧ k + R ≤ 252 ∧ pw k ≤ t ∧ (t < pw (k + R + 1) ∨ k + R = 252)

theorem cmp_ole (x y : EReal) : Ideal.cmp .ole x y = 1#1 ↔ x ≤ y := by
  show BitVec.ofBool (decide (x ≤ y)) = 1#1 ↔ _
  by_cases h : x ≤ y <;> simp [h]

theorem select_pos {α : Type} {c : BitVec 1} (h : c = 1#1) (x y : α) : Scalar.select c x y = x := if_pos h

theorem select_neg {α : Type} {c : BitVec 1} (h : ¬ c = 1#1) (x y : α) : Scalar.select c x y = y := if_neg h

theorem rung_stands {t : EReal} {R : ℕ} {n : BitVec 32} (h : Stands t R n) (w R' : ℕ) (hw : R = R' + w) (hw' : w ≤ R' + 1) :
    Stands t R' (rung1 (F := Ideal) t (BitVec.ofNat 32 w) n) := by
  obtain ⟨k, rfl, hk, hlo, hhi⟩ := h
  have e : IntOp.addi (BitVec.ofNat 32 k) (BitVec.ofNat 32 w) = BitVec.ofNat 32 (k + w) := by
    show BitVec.ofNat 32 k + BitVec.ofNat 32 w = _
    rw [BitVec.ofNat_add]
  have hb := pw_bits (k + w) (by omega)
  unfold rung1
  rw [e]
  show Stands t R' (Scalar.select (Ideal.cmp .ole (Ideal.ofBits .f32 (IntOp.shli .vector (BitVec.ofNat 32 (k + w)) 23#32)) t) _ _)
  rw [hb]
  by_cases hc : pw (k + w) ≤ t
  · rw [select_pos ((cmp_ole _ _).2 hc)]
    exact ⟨k + w, rfl, by omega, hc, hhi.imp (fun h => by rwa [show k + w + R' + 1 = k + R + 1 by omega]) (fun h => by omega)⟩
  · rw [select_neg (fun h => hc ((cmp_ole _ _).1 h))]
    refine ⟨k, rfl, by omega, hlo, Or.inl ?_⟩
    exact lt_of_lt_of_le (not_le.1 hc) (pw_mono (by omega))

theorem ofBits_inf : Ideal.ofBits .f32 0x7F800000#32 = ⊤ := by
  simp [Ideal.ofBits, Ideal.ieee]

/-- The magnitude times `1 / 448`. -/
def scaled (a : EReal) : EReal := a * Ideal.ofBits .f32 0x3B124925#32

theorem cmp_oeq (x y : EReal) : Ideal.cmp .oeq x y = 1#1 ↔ x = y := by
  show BitVec.ofBool (decide (x = y)) = 1#1 ↔ _
  by_cases h : x = y <;> simp [h]

theorem expo1_top {a : EReal} (h : scaled a = ⊤) : expo1 (F := Ideal) a = 255#32 := by
  unfold expo1
  show Scalar.select (Ideal.cmp .oeq (scaled a) (Ideal.ofBits .f32 0x7F800000#32)) 255#32 _ = _
  rw [h, ofBits_inf]
  rw [select_pos ((cmp_oeq _ _).2 rfl)]

theorem expo1_stands {a : EReal} (h : scaled a ≠ ⊤) (h0 : 0 ≤ scaled a) : Stands (scaled a) 0 (expo1 (F := Ideal) a) := by
  unfold expo1
  show Stands _ 0 (Scalar.select (Ideal.cmp .oeq (scaled a) (Ideal.ofBits .f32 0x7F800000#32)) 255#32
    (rung1 (F := Ideal) (scaled a) 1#32 <| rung1 (F := Ideal) (scaled a) 2#32 <| rung1 (F := Ideal) (scaled a) 4#32 <|
      rung1 (F := Ideal) (scaled a) 8#32 <| rung1 (F := Ideal) (scaled a) 16#32 <| rung1 (F := Ideal) (scaled a) 32#32 <|
      rung1 (F := Ideal) (scaled a) 63#32 <| rung1 (F := Ideal) (scaled a) 126#32 0#32))
  rw [select_neg (fun k => h (by rw [ofBits_inf] at k; exact (cmp_oeq _ _).1 k))]
  have s0 : Stands (scaled a) 252 0#32 := ⟨0, rfl, le_rfl, by simpa [pw] using h0, Or.inr rfl⟩
  have s1 := rung_stands s0 126 126 rfl (by omega)
  have s2 := rung_stands s1 63 63 rfl (by omega)
  have s3 := rung_stands s2 32 31 rfl (by omega)
  have s4 := rung_stands s3 16 15 rfl (by omega)
  have s5 := rung_stands s4 8 7 rfl (by omega)
  have s6 := rung_stands s5 4 3 rfl (by omega)
  have s7 := rung_stands s6 2 1 rfl (by omega)
  exact rung_stands s7 1 0 rfl (by omega)

/-- The exponent found by the logarithm. -/
def expS (t : EReal) : EReal :=
  if pw 1 ≤ t ∧ t < ⊤ then min (Ideal.liftRound Int.floor (Ideal.div (Ideal.log t) ((Real.log 2 : ℝ) : EReal)) + 1) ((126 : ℝ) : EReal)
  else 0

theorem expS_normal {t : EReal} {k : ℕ} (h1 : 1 ≤ k) (h2 : k ≤ 252) (hlo : pw k ≤ t) (hhi : t < pw (k + 1) ∨ k = 252) (ht : t ≠ ⊤) :
    expS t = (((k : ℤ) - 126 : ℤ) : ℝ) := by
  unfold expS
  rw [if_pos ⟨(pw_mono h1).trans hlo, lt_top_iff_ne_top.2 ht⟩]
  rw [pw_pos (by omega)] at hlo
  induction t with
  | bot => exact absurd hlo (by simp)
  | top => exact absurd rfl ht
  | coe r =>
    have hr : (2 : ℝ) ^ ((k : ℤ) - 127) ≤ r := by exact_mod_cast hlo
    have hp : 0 < r := lt_of_lt_of_le (zpow_pos (by norm_num) _) hr
    have hl : 0 < Real.log 2 := Real.log_pos (by norm_num)
    have e1 : Ideal.log (r : EReal) = ((Real.log r : ℝ) : EReal) := if_neg (not_le.2 hp)
    rw [e1, Ideal.div_coe hl.ne', ← EReal.coe_mul]
    show min (((⌊Real.log r * (1 / Real.log 2)⌋ : ℝ) : EReal) + 1) ((126 : ℝ) : EReal) = _
    have hlow : ((k : ℤ) - 127) ≤ ⌊Real.log r * (1 / Real.log 2)⌋ := by
      rw [Int.le_floor, mul_one_div, le_div_iff₀ hl]
      have := Real.log_le_log (zpow_pos (by norm_num) _) hr
      rwa [Real.log_zpow] at this
    rw [show (1 : EReal) = ((1 : ℝ) : EReal) from rfl, ← EReal.coe_add]
    rcases hhi with hhi | rfl
    · rw [pw_pos (by omega)] at hhi
      have hr' : r < (2 : ℝ) ^ (((k + 1 : ℕ) : ℤ) - 127) := by exact_mod_cast hhi
      have hup : ⌊Real.log r * (1 / Real.log 2)⌋ < (k : ℤ) - 126 := by
        rw [Int.floor_lt, mul_one_div, div_lt_iff₀ hl]
        have := Real.log_lt_log hp hr'
        rw [Real.log_zpow] at this
        have e : (((((k + 1 : ℕ) : ℤ) - 127 : ℤ)) : ℝ) = ((((k : ℤ) - 126 : ℤ)) : ℝ) := by push_cast; ring
        rwa [e] at this
      have e : ⌊Real.log r * (1 / Real.log 2)⌋ = (k : ℤ) - 127 := by omega
      rw [e, min_eq_left]
      · congr 1
        push_cast
        ring
      · have : (k : ℝ) ≤ 252 := by exact_mod_cast h2
        exact_mod_cast (by push_cast; linarith : (((k : ℤ) - 127 : ℤ) : ℝ) + 1 ≤ 126)
    · rw [min_eq_right]
      · norm_num
      · have : (125 : ℝ) ≤ ⌊Real.log r * (1 / Real.log 2)⌋ := by exact_mod_cast hlow
        exact_mod_cast (by linarith : (126 : ℝ) ≤ ⌊Real.log r * (1 / Real.log 2)⌋ + 1)

theorem expS_low {t : EReal} (h : t < pw 1) : expS t = 0 := if_neg fun k => absurd k.1 (not_le.2 h)

theorem expS_top : expS ⊤ = 0 := if_neg fun k => absurd k.2 (lt_irrefl _)

theorem normal1_at (k : ℕ) (h : k < 256) : normal1 (BitVec.ofNat 32 k) = if 1 ≤ k ∧ k < 255 then 1#1 else 0#1 := by
  have e : (BitVec.ofNat 32 k).toInt = k := by
    rw [BitVec.toInt_eq_toNat_of_lt] <;> rw [BitVec.toNat_ofNat] <;> omega
  show BitVec.ofBool ((0#32).slt (BitVec.ofNat 32 k)) &&& BitVec.ofBool ((BitVec.ofNat 32 k).slt 255#32) = _
  simp only [BitVec.slt, e, show (0#32).toInt = 0 from rfl, show (255#32).toInt = 255 from rfl]
  by_cases h1 : 1 ≤ k <;> by_cases h2 : k < 255
  · rw [if_pos ⟨h1, h2⟩, decide_eq_true (by omega : (0 : ℤ) < k), decide_eq_true (by omega : (k : ℤ) < 255)]; rfl
  · rw [if_neg (by omega), decide_eq_false (by omega : ¬ (k : ℤ) < 255)]; cases decide ((0 : ℤ) < k) <;> rfl
  · rw [if_neg (by omega), decide_eq_false (by omega : ¬ (0 : ℤ) < k)]; cases decide ((k : ℤ) < 255) <;> rfl
  · omega

theorem exp2_int (z : ℤ) : Ideal.exp2 (((z : ℝ)) : EReal) = (((2 : ℝ) ^ z : ℝ) : EReal) := by
  show ((Real.rpow 2 (z : ℝ) : ℝ) : EReal) = _
  exact congrArg _ (Real.rpow_intCast 2 z)

theorem exp2_zero : Ideal.exp2 0 = 1 := by
  have := exp2_int 0
  simpa using this

theorem scl1_yes {e : BitVec 32} (h : normal1 e = 1#1) :
    scl1 (F := Ideal) e = Ideal.ofBits .f32 (IntOp.shli .vector (IntOp.addi e 1#32) 23#32) := select_pos h _ _

theorem scl1_no {e : BitVec 32} (h : ¬ normal1 e = 1#1) : scl1 (F := Ideal) e = 1 :=
  (select_neg h _ _).trans Ideal.ofBits_one_f32

theorem inv1_yes {e : BitVec 32} (h : normal1 e = 1#1) :
    inv1 (F := Ideal) e = Ideal.ofBits .f32 (IntOp.shli .vector (IntOp.subi 253#32 e) 23#32) := select_pos h _ _

theorem inv1_no {e : BitVec 32} (h : ¬ normal1 e = 1#1) : inv1 (F := Ideal) e = 1 :=
  (select_neg h _ _).trans Ideal.ofBits_one_f32

/-- The scale and its inverse, by the exponent found. -/
theorem scales_at {a : EReal} (h0 : 0 ≤ scaled a) :
    scl1 (F := Ideal) (expo1 (F := Ideal) a) = Ideal.exp2 (expS (scaled a)) ∧
      inv1 (F := Ideal) (expo1 (F := Ideal) a) = Ideal.exp2 (0 - expS (scaled a)) := by
  by_cases ht : scaled a = ⊤
  · have hn : ¬ normal1 (255#32) = 1#1 := by decide
    rw [expo1_top ht, scl1_no hn, inv1_no hn, ht, expS_top, sub_zero, exp2_zero]
    exact ⟨rfl, rfl⟩
  obtain ⟨k, hk, hk2, hlo, hhi⟩ := expo1_stands ht h0
  have hn := normal1_at k (by omega)
  rw [hk]
  by_cases h1 : 1 ≤ k
  · rw [if_pos ⟨h1, by omega⟩] at hn
    rw [scl1_yes hn, inv1_yes hn, expS_normal h1 (by omega) hlo (hhi.imp (fun h => h) (fun h => by omega)) ht]
    have e : IntOp.addi (BitVec.ofNat 32 k) 1#32 = BitVec.ofNat 32 (k + 1) := (BitVec.ofNat_add ..).symm
    have e' : IntOp.subi 253#32 (BitVec.ofNat 32 k) = BitVec.ofNat 32 (253 - k) := by
      unfold IntOp.subi
      apply BitVec.eq_of_toNat_eq
      rw [BitVec.toNat_sub, BitVec.toNat_ofNat, BitVec.toNat_ofNat, BitVec.toNat_ofNat]
      omega
    have e2 : (0 : ℝ) - (((k : ℤ) - 126 : ℤ) : ℝ) = ((126 - (k : ℤ) : ℤ) : ℝ) := by push_cast; ring
    have e3 : ((k + 1 : ℕ) : ℤ) - 127 = (k : ℤ) - 126 := by omega
    have e4 : ((253 - k : ℕ) : ℤ) - 127 = 126 - (k : ℤ) := by omega
    rw [e, e', pw_bits _ (by omega), pw_bits _ (by omega), pw_pos (by omega), pw_pos (by omega), exp2_int, ← EReal.coe_zero, ← EReal.coe_sub,
      e2, exp2_int, e3, e4]
    exact ⟨rfl, rfl⟩
  · rw [if_neg (by omega)] at hn
    obtain rfl : k = 0 := by omega
    have hn' : ¬ normal1 (BitVec.ofNat 32 0) = 1#1 := by rw [hn]; decide
    have : scaled a < pw 1 := hhi.resolve_right (by omega)
    rw [scl1_no hn', inv1_no hn', expS_low this, sub_zero, exp2_zero]
    exact ⟨rfl, rfl⟩

end Cert.Model

end
-- ==== Proof.Spec.lean ====
/-
  What both programs compute over the extended reals, entry by entry: the gated values, the greatest magnitude of a group, the
  power-of-two scale, the codes, and the product; and the kernel's values of a point as these.
-/
module

public import proofs.«01_k».proof.Proof.Ladder
public import Idealize.ShloMosaic.Lib.Pointwise

@[expose] public section

noncomputable section

namespace Cert.Model

open Idealize.ShloMosaic

/-! ## The functions computed, of the gates and ups `G` at row and column numbers -/

variable (G : ℕ → ℕ → EReal)

/-- The gated value of row `r`, column `j`. -/
def hid (r j : ℕ) : EReal := G r j * Ideal.logistic (G r j) * G r (4096 + j)

/-- The greatest magnitude of row `r`, group `b`. -/
def mag (r b : ℕ) : EReal := (Finset.univ : Finset (Fin 128)).fold max ⊥ fun k => max (hid G r (128 * b + k.val)) (-hid G r (128 * b + k.val))

/-- The exponent of row `r`, group `b`. -/
def ex (r b : ℕ) : EReal := expS (scaled (mag G r b))

/-- The scale of row `r`, group `b`. -/
def scale (r b : ℕ) : EReal := Ideal.exp2 (ex G r b)

/-- The code of row `r`, column `j`. -/
def code (r j : ℕ) : EReal :=
  min (Ideal.ofBits .f32 0x43E00000#32) (max (Ideal.ofBits .f32 0xC3E00000#32) (hid G r j * Ideal.exp2 (0 - ex G r (j / 128))))

/-- The product's entry of row `r`, column `n`, with the weights' codes and scales at row and column numbers. -/
def sumOf (W S : ℕ → ℕ → EReal) (r n : ℕ) : EReal :=
  ∑ k : Fin 4096, code G r k.val * scale G r (k.val / 128) * (W n k.val * S (n / 128) (k.val / 128))

theorem ofBits_ninf : Ideal.ofBits .f32 0xFF800000#32 = ⊥ := by
  simp [Ideal.ofBits, Ideal.ieee]

theorem abs_nonneg' (x : EReal) : 0 ≤ max x (-x) := by
  rcases le_total 0 x with h | h
  · exact le_max_of_le_left h
  · exact le_max_of_le_right (by simpa using h)

theorem mag_nonneg (r b : ℕ) : 0 ≤ mag G r b := by
  unfold mag
  rw [Finset.le_fold_max]
  exact Or.inr ⟨0, Finset.mem_univ _, abs_nonneg' _⟩

theorem scaled_nonneg {a : EReal} (h : 0 ≤ a) : 0 ≤ scaled a := by
  refine EReal.mul_nonneg h ?_
  simp [Ideal.ofBits, Ideal.ieee]
  exact EReal.mul_nonneg (EReal.coe_nonneg.2 (by norm_num)) (EReal.coe_nonneg.2 (by positivity))

theorem hOf_eq (x y : EReal) :
    hOf (F := Ideal) ((-((Real.log 2)⁻¹) : ℝ) : EReal) x y = x * Ideal.logistic x * y := by
  have hl : 0 < Real.log 2 := Real.log_pos (by norm_num)
  have e : Ideal.exp2 (x * ((-((Real.log 2)⁻¹) : ℝ) : EReal)) = Ideal.exp (-x) := by
    have hc : -((Real.log 2)⁻¹) < 0 := neg_neg_of_pos (inv_pos.2 hl)
    induction x with
    | bot => rw [EReal.bot_mul_coe_of_neg hc]; rfl
    | top => rw [EReal.top_mul_coe_of_neg hc]; rfl
    | coe r =>
      rw [← EReal.coe_mul, ← EReal.coe_neg]
      show ((Real.rpow 2 (r * -((Real.log 2)⁻¹)) : ℝ) : EReal) = ((Real.exp (-r) : ℝ) : EReal)
      congr 1
      show (2 : ℝ) ^ (r * -((Real.log 2)⁻¹)) = _
      rw [Real.rpow_def_of_pos (by norm_num)]
      congr 1
      field_simp
  have one : Ideal.ofBits .f32 0x3F800000#32 = 1 := Ideal.ofBits_one_f32
  show x * Ideal.div (Ideal.ofBits .f32 0x3F800000#32) (Ideal.ofBits .f32 0x3F800000#32 + Ideal.exp2 (x * ((-((Real.log 2)⁻¹) : ℝ) : EReal))) * y = _
  rw [e, one]
  rfl

theorem rowMax_eq (h : FVec Ideal S16x128 .f32) (i : Fin 16) (z : Fin 1) :
    rowMax h (ix2 i z) = (Finset.univ : Finset (Fin 128)).fold max ⊥ fun k => max (h (ix2 i k)) (-h (ix2 i k)) := by
  unfold rowMax
  pointwise
  rw [ofBits_ninf]
  rfl

/-! ## The kernel's values of a point -/

/-- The kernel's constant, minus the reciprocal of `log 2`. -/
abbrev c₀ : EReal := ((-((Real.log 2)⁻¹) : ℝ) : EReal)

variable (g : Vec Ideal S256x8192 .bf16)

theorem hAt_eq (r j : ℕ) : hAt (F := Ideal) c₀ g r j = hid (gAt (F := Ideal) g) r j := hOf_eq _ _

theorem aAt_eq (r b : ℕ) : aAt (F := Ideal) c₀ g r b = mag (gAt (F := Ideal) g) r b := by
  unfold aAt
  refine (rowMax_eq _ ⟨r % 16, Nat.mod_lt _ (by decide)⟩ ⟨0, by decide⟩).trans ?_
  unfold mag
  refine congrArg (fun f => Finset.fold max ⊥ f Finset.univ) (funext fun k => ?_)
  have e : hBlk (F := Ideal) c₀ g (r / 16) b (ix2 ⟨r % 16, Nat.mod_lt _ (by decide)⟩ k) = hid (gAt (F := Ideal) g) r (128 * b + k.val) := by
    show hAt (F := Ideal) c₀ g (16 * (r / 16) + r % 16) (128 * b + k.val) = _
    rw [Nat.div_add_mod, hAt_eq]
  rw [e]

theorem scl_eq (r b : ℕ) : scl1 (F := Ideal) (expo1 (aAt (F := Ideal) c₀ g r b)) = scale (gAt (F := Ideal) g) r b := by
  rw [aAt_eq]
  exact (scales_at (scaled_nonneg (mag_nonneg _ r b))).1

theorem inv_eq (r b : ℕ) : inv1 (F := Ideal) (expo1 (aAt (F := Ideal) c₀ g r b)) = Ideal.exp2 (0 - ex (gAt (F := Ideal) g) r b) := by
  rw [aAt_eq]
  exact (scales_at (scaled_nonneg (mag_nonneg _ r b))).2

theorem codeAt_eq (r j : ℕ) : codeAt (F := Ideal) c₀ g r j = code (gAt (F := Ideal) g) r j := by
  have e : codeAt (F := Ideal) c₀ g r j = min (Ideal.ofBits .f32 0x43E00000#32) (max (Ideal.ofBits .f32 0xC3E00000#32)
      (hAt (F := Ideal) c₀ g r j * inv1 (F := Ideal) (expo1 (aAt (F := Ideal) c₀ g r (j / 128))))) := rfl
  rw [e, inv_eq, hAt_eq]
  rfl

theorem codesV_eq (y : S256x4096.Idx) : codesV (F := Ideal) c₀ g y = code (gAt (F := Ideal) g) (y 0).val (y 1).val := codeAt_eq g _ _

theorem sclsV_eq (y : S256x32.Idx) : sclsV (F := Ideal) c₀ g y = scale (gAt (F := Ideal) g) (y 0).val (y 1).val := scl_eq g _ _

theorem actsV_eq (y : S256x4096.Idx) :
    actsV (F := Ideal) c₀ g y = code (gAt (F := Ideal) g) (y 0).val (y 1).val * scale (gAt (F := Ideal) g) (y 0).val ((y 1).val / 128) := by
  have e : actsV (F := Ideal) c₀ g y = codeAt (F := Ideal) c₀ g (y 0).val (y 1).val
      * scl1 (F := Ideal) (expo1 (aAt (F := Ideal) c₀ g (y 0).val ((y 1).val / 128))) := rfl
  rw [e, codeAt_eq, scl_eq]

theorem product_eq (x : Vec Ideal S256x4096 .bf16) (w : Vec Ideal S1408x4096 .bf16) (p : Fin 256) (q : Fin 1408) :
    product (F := Ideal) x w (ix2 p q) = ∑ k : Fin 4096, x (ix2 p k) * w (ix2 q k) := by
  unfold product
  pointwise

/-! ## The results -/

/-- An array at row and column numbers. -/
def matOf {A B : ℕ} [NeZero A] [NeZero B] (X : (⟨2, ![A, B]⟩ : Shape).Idx → EReal) (r j : ℕ) : EReal := X (ix2 (Fin.ofNat A r) (Fin.ofNat B j))

theorem matOf_at {A B : ℕ} [NeZero A] [NeZero B] (X : (⟨2, ![A, B]⟩ : Shape).Idx → EReal) (r : Fin A) (j : Fin B) :
    X (ix2 r j) = matOf X r.val j.val := by
  unfold matOf
  rw [Fin.ofNat_eq_cast, Fin.ofNat_eq_cast, Fin.cast_val_eq_self, Fin.cast_val_eq_self]

instance : NeZero 12288 := ⟨by decide⟩
instance : NeZero 8192 := ⟨by decide⟩
instance : NeZero 1408 := ⟨by decide⟩
instance : NeZero 4096 := ⟨by decide⟩

variable (X : (⟨2, ![12288, 8192]⟩ : Shape).Idx → EReal) (W : (⟨2, ![1408, 4096]⟩ : Shape).Idx → EReal) (S : (⟨2, ![11, 32]⟩ : Shape).Idx → EReal)

/-- The product, of the gates and ups and the weights. -/
def resY : (⟨2, ![12288, 1408]⟩ : Shape).Idx → EReal := fun i => sumOf (matOf X) (matOf W) (matOf S) (i 0).val (i 1).val

/-- The codes. -/
def resQ : (⟨2, ![12288, 4096]⟩ : Shape).Idx → EReal := fun i => code (matOf X) (i 0).val (i 1).val

/-- The scales. -/
def resS : (⟨2, ![12288, 32]⟩ : Shape).Idx → EReal := fun i => scale (matOf X) (i 0).val (i 1).val

/-! A row's values are those of any other function with the same row. -/

section Rows

variable {G G' : ℕ → ℕ → EReal} {r r' : ℕ} (h : G r = G' r')
include h

theorem hid_row (j : ℕ) : hid G r j = hid G' r' j := by
  unfold hid
  rw [h]

theorem ex_row (b : ℕ) : ex G r b = ex G' r' b := by
  unfold ex mag
  simp only [hid_row h]

theorem scale_row (b : ℕ) : scale G r b = scale G' r' b := by
  unfold scale
  rw [ex_row h]

theorem code_row (j : ℕ) : code G r j = code G' r' j := by
  unfold code
  rw [hid_row h, ex_row h]

end Rows

end Cert.Model

end
-- ==== Proof.KernelValues.lean ====
/-
  The idealized kernel's result arrays are the product, the codes and the scales.
-/
module

public import proofs.«01_k».proof.Proof.Spec
public import proofs.«01_k».proof.Proof.KernelIdealFrame
public import Idealize.ShloMosaic.Lib.Pipeline.ValueKit

@[expose] public section

noncomputable section

namespace Cert.KernelIdeal.Run

open Idealize.ShloMosaic Idealize.ShloMosaic.Pipeline Cert.KernelIdeal.Gen Cert.Model

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem cc_eq : (cc : Ideal .f32) = c₀ := rfl

theorem t_lt (t : Fin cfg0.N) : t.val < 48 := t.isLt

/-- A point's gates and ups are 256 rows of the whole. -/
theorem gu_row (t : Fin cfg0.N) (r : ℕ) (hr : r < 256) : gAt (F := Ideal) (gu m c t) r = matOf (V m c main_v0) (256 * t.val + r) := by
  have ht := t_lt t
  funext j
  unfold gAt matOf
  show iblk m c 0 t _ = _
  blk_simp [iblk]
  refine congrArg (V m c main_v0) (funext fun a => Fin.ext ?_)
  match a with
  | ⟨0, _⟩ =>
    blk_simp [idx0]
    show t.val * 256 + r % 256 = (256 * t.val + r) % 12288
    omega
  | ⟨1, _⟩ =>
    blk_simp [idx0]
    rfl

theorem wc_at (n : Fin 1408) (j : Fin 4096) : wcB m c pt0 (ix2 n j) = matOf (m ((c.tc : Thread nD τ).loc main_arg1)) n.val j.val := by
  refine Eq.trans ?_ (matOf_at _ n j)
  show iblk m c 1 pt0 _ = _
  blk_simp [iblk]
  rw [V_main_arg1]
  refine congrArg (m ((c.tc : Thread nD τ).loc main_arg1)) ?_
  blk_ext [idx1]

theorem ws_at (n : Fin 11) (b : Fin 32) : wsB m c pt0 (ix2 n b) = matOf (m ((c.tc : Thread nD τ).loc main_arg2)) n.val b.val := by
  refine Eq.trans ?_ (matOf_at _ n b)
  show iblk m c 2 pt0 _ = _
  blk_simp [iblk]
  rw [V_main_arg2]
  refine congrArg (m ((c.tc : Thread nD τ).loc main_arg2)) ?_
  blk_ext [idx2]

theorem wide_at (n : Fin 1408) (j : Fin 4096) : wide m c (ix2 n j)
    = matOf (m ((c.tc : Thread nD τ).loc main_arg1)) n.val j.val * matOf (m ((c.tc : Thread nD τ).loc main_arg2)) (n.val / 128) (j.val / 128) := by
  have e : wide m c (ix2 n j) = wcB m c pt0 (ix2 n j) * wsB m c pt0 (ix2 ⟨n.val / 128, by omega⟩ ⟨j.val / 128, by omega⟩) := rfl
  rw [e, wc_at, ws_at]

theorem final_4 : (dats m 0 c).arrAt 4 cfg0.N = resQ (V m c main_v0) := by
  refine (dats m 0 c).arrAt_eq_of_covers 4 _ (by decide +kernel) fun t hf y => ?_
  blk_simp
  rw [after0_4]
  unfold resQ
  blk_simp [idx4]
  refine (codesV_eq (gu m c t) y).trans ?_
  rw [code_row (gu_row m c t _ (y 0).isLt)]
  show code _ _ _ = code _ (t.val * 256 + (y 0).val) (y 1).val
  rw [Nat.mul_comm 256]

theorem final_5 : (dats m 0 c).arrAt 5 cfg0.N = resS (V m c main_v0) := by
  refine (dats m 0 c).arrAt_eq_of_covers 5 _ (by decide +kernel) fun t hf y => ?_
  blk_simp
  rw [after0_5]
  unfold resS
  blk_simp [idx5]
  refine (sclsV_eq (gu m c t) y).trans ?_
  rw [scale_row (gu_row m c t _ (y 0).isLt)]
  show scale _ _ _ = scale _ (t.val * 256 + (y 0).val) (y 1).val
  rw [Nat.mul_comm 256]

theorem after_3 (t : Fin cfg0.N) (p : Fin 256) (q : Fin 1408) :
    product (actsV cc (gu m c t)) (wide m c) (ix2 p q)
      = sumOf (matOf (V m c main_v0)) (matOf (m ((c.tc : Thread nD τ).loc main_arg1))) (matOf (m ((c.tc : Thread nD τ).loc main_arg2)))
          (256 * t.val + p.val) q.val := by
  rw [product_eq]
  unfold sumOf
  refine Finset.sum_congr rfl fun k _ => ?_
  rw [wide_at]
  refine congrArg (· * _) ((actsV_eq (gu m c t) (ix2 p k)).trans ?_)
  show code _ p.val k.val * scale _ p.val (k.val / 128) = _
  rw [code_row (gu_row m c t _ p.isLt), scale_row (gu_row m c t _ p.isLt)]

theorem final_3 : (dats m 0 c).arrAt 3 cfg0.N
    = resY (V m c main_v0) (m ((c.tc : Thread nD τ).loc main_arg1)) (m ((c.tc : Thread nD τ).loc main_arg2)) := by
  refine (dats m 0 c).arrAt_eq_of_covers 3 _ (by decide +kernel) fun t hf y => ?_
  blk_simp
  rw [after0_3]
  unfold resY
  blk_simp [idx3]
  have ey : y = ix2 (⟨(y 0).val, (y 0).isLt⟩ : Fin 256) (⟨(y 1).val, (y 1).isLt⟩ : Fin 1408) := by
    funext a
    match a with
    | ⟨0, _⟩ => rfl
    | ⟨1, _⟩ => rfl
  refine (congrArg (product (actsV cc (gu m c t)) (wide m c)) ey).trans ((after_3 m c t _ _).trans ?_)
  show sumOf _ _ _ (256 * t.val + (y 0).val) (y 1).val = sumOf _ _ _ (t.val * 256 + (y 0).val) (y 1).val
  rw [Nat.mul_comm 256]

/-- The run: the results' values, the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v1_0)
        = resY (V m c main_v0) (m ((c.tc : Thread nD τ).loc main_arg1)) (m ((c.tc : Thread nD τ).loc main_arg2))
      ∧ r.2.mem ((c.tc : Thread nD τ).loc main_v1_1) = resQ (V m c main_v0)
      ∧ r.2.mem ((c.tc : Thread nD τ).loc main_v1_2) = resS (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_3 m c), ((h.1 c).1 4).trans (final_4 m c),
      ((h.1 c).1 5).trans (final_5 m c), h.2 c⟩)
    (θ_run_and (run_main m ρ) (unchanged m ρ))

/-- The gates and ups are the first argument's, reshaped. -/
theorem v0_eq : V m c main_v0 = shapeCast S12288x8192 (m ((c.tc : Thread nD τ).loc main_arg0)) shapeCasts_S2x6144x8192_S12288x8192 := by
  entry_read
  rfl

end Cert.KernelIdeal.Run

end
-- ==== Proof.RefValues.lean ====
/-
  The reference's values over the extended reals, entry by entry.
-/
module

public import proofs.«01_k».proof.Proof.Spec
public import proofs.«01_k».proof.Proof.Gen.ReferenceIdeal.Frame

@[expose] public section

noncomputable section

namespace Cert.ReferenceIdeal.Values

open Idealize.ShloMosaic Cert.ReferenceIdeal.Gen Cert.Model

/-! ## The exponent -/

/-- The greatest magnitudes. -/
def refMax (h : FVec Ideal S12288x32x128 .f32) : FVec Ideal S12288x32 .f32 :=
  multiReduction .maximumf [2] S12288x32 (absf h) 0xFF800000#32 reduces_S12288x32x128_S12288x32 (.inl rfl) rfl

/-- The exponents of the greatest magnitudes. -/
def refTail (a : FVec Ideal S12288x32 .f32) : FVec Ideal S12288x32 .f32 :=
  have t : FVec Ideal S12288x32 .f32 := mulf a (broadcast S12288x32 (Scalar.ofBits .f32 0x3B124925#32))
  select (andi (cmpf .oge t (broadcast S12288x32 (Scalar.ofBits .f32 0x00800000#32)))
      (cmpf .olt t (broadcast S12288x32 (Scalar.ofBits .f32 0x7F800000#32))))
    (minimumf (addf (floor (divf (log t) (broadcast S12288x32 (Named.named κ "ln_2" 0x3F317218#32))))
      (broadcast S12288x32 (Scalar.ofBits .f32 0x3F800000#32))) (broadcast S12288x32 (Scalar.ofBits .f32 0x42FC0000#32)))
    (broadcast S12288x32 (Scalar.ofBits .f32 0x00000000#32))

theorem pay3_def (v0 v3 : Vec Ideal S12288x4096 .bf16) : k0_pay3 (F := Ideal) v0 v3 = refTail (refMax (k0_pay2 (F := Ideal) v0 v3)) := rfl

theorem refMax_at (h : FVec Ideal S12288x32x128 .f32) (r : Fin 12288) (b : Fin 32) :
    refMax h (ix2 r b) = (Finset.univ : Finset (Fin 128)).fold max ⊥ fun k => max (h (ix3 r b k)) (-h (ix3 r b k)) := by
  unfold refMax
  pointwise
  rw [ofBits_ninf]
  rfl

theorem ln_2 : Named.named (F := Ideal) (φ := .f32) κ "ln_2" 0x3F317218#32 = ((Real.log 2 : ℝ) : EReal) := rfl

theorem ofBits_126 : Ideal.ofBits .f32 0x42FC0000#32 = ((126 : ℝ) : EReal) := by
  simp [Ideal.ofBits, Ideal.ieee]
  rw [← EReal.coe_mul]
  norm_num

theorem ofBits_least : Ideal.ofBits .f32 0x00800000#32 = pw 1 := pw_bits 1 (by decide)

/-- The exponent as the reference spells it. -/
theorem expS_select (t : EReal) :
    Scalar.select (IntOp.andi (Ideal.cmp .oge t (Ideal.ofBits .f32 0x00800000#32)) (Ideal.cmp .olt t (Ideal.ofBits .f32 0x7F800000#32)))
      (min (Ideal.liftRound Int.floor (Ideal.div (Ideal.log t) (Named.named (F := Ideal) (φ := .f32) κ "ln_2" 0x3F317218#32))
        + Ideal.ofBits .f32 0x3F800000#32) (Ideal.ofBits .f32 0x42FC0000#32))
      (Ideal.ofBits .f32 0x00000000#32) = expS t := by
  rw [ofBits_least, ofBits_inf, ofBits_126, ln_2, Ideal.ofBits_one_f32, Ideal.ofBits_zero_f32]
  have e : IntOp.andi (Ideal.cmp .oge t (pw 1)) (Ideal.cmp .olt t ⊤) = 1#1 ↔ pw 1 ≤ t ∧ t < ⊤ := by
    show BitVec.ofBool (decide (pw 1 ≤ t)) &&& BitVec.ofBool (decide (t < ⊤)) = 1#1 ↔ _
    by_cases h1 : pw 1 ≤ t <;> by_cases h2 : t < ⊤ <;> simp [h1, h2]
  unfold expS
  by_cases h : pw 1 ≤ t ∧ t < ⊤
  · rw [select_pos (e.2 h), if_pos h]
  · rw [select_neg (fun k => h (e.1 k)), if_neg h]

theorem refTail_at (a : FVec Ideal S12288x32 .f32) (i : S12288x32.Idx) : refTail a i = expS (scaled (a i)) := by
  have e : refTail a i = Scalar.select (IntOp.andi (Ideal.cmp .oge (scaled (a i)) (Ideal.ofBits .f32 0x00800000#32))
        (Ideal.cmp .olt (scaled (a i)) (Ideal.ofBits .f32 0x7F800000#32)))
      (min (Ideal.liftRound Int.floor (Ideal.div (Ideal.log (scaled (a i))) (Named.named (F := Ideal) (φ := .f32) κ "ln_2" 0x3F317218#32))
        + Ideal.ofBits .f32 0x3F800000#32) (Ideal.ofBits .f32 0x42FC0000#32))
      (Ideal.ofBits .f32 0x00000000#32) := rfl
  rw [e, expS_select]

/-! ## The other payloads, of the exponents and the gated values -/

/-- The codes, of the gated values and the exponents. -/
def refCodes (h : FVec Ideal S12288x32x128 .f32) (e : FVec Ideal S12288x32 .f32) : FVec Ideal S12288x32x128 .fp8e4m3 :=
  truncf .fp8e4m3 (minimumf (broadcast S12288x32x128 (Scalar.ofBits .f32 0x43E00000#32))
    (maximumf (broadcast S12288x32x128 (Scalar.ofBits .f32 0xC3E00000#32))
      (mulf h (broadcastTo S12288x32x128 (shapeCast S12288x32x1 (exp2 (subf (broadcast S12288x32 (Scalar.ofBits .f32 0x00000000#32)) e))
        shapeCasts_S12288x32_S12288x32x1) broadcasts_S12288x32x1_S12288x32x128)))) bitsLt_fp8e4m3_f32

theorem pay5_def (v0 v3 : Vec Ideal S12288x4096 .bf16) :
    k0_pay5 (F := Ideal) v0 v3 = refCodes (k0_pay2 (F := Ideal) v0 v3) (k0_pay3 (F := Ideal) v0 v3) := rfl

theorem refCodes_at (h : FVec Ideal S12288x32x128 .f32) (e : FVec Ideal S12288x32 .f32) (r : Fin 12288) (b : Fin 32) (k : Fin 128) :
    refCodes h e (ix3 r b k) = min (Ideal.ofBits .f32 0x43E00000#32) (max (Ideal.ofBits .f32 0xC3E00000#32)
      (h (ix3 r b k) * Ideal.exp2 (0 - e (ix2 r b)))) := by
  unfold refCodes
  pointwise
  rfl

theorem flat_at (q : FVec Ideal S12288x32x128 .fp8e4m3) (r : Fin 12288) (j : Fin 4096) :
    shapeCast S12288x4096 q shapeCasts_S12288x32x128_S12288x4096 (ix2 r j)
      = q (ix3 r ⟨j.val / 128, by omega⟩ ⟨j.val % 128, by omega⟩) := by
  pointwise

theorem exp2_at (e : FVec Ideal S12288x32 .f32) (i : S12288x32.Idx) : exp2 e i = Ideal.exp2 (e i) := rfl

theorem pay1_at (s : FVec Ideal S12288x32 .f32) (q : FVec Ideal S12288x32x128 .fp8e4m3) (w : Vec Ideal S1408x4096 .fp8e4m3)
    (d : Vec Ideal S11x32 .f32) (r : Fin 12288) (n : Fin 1408) :
    k0_pay1 (F := Ideal) s q w d (ix2 r n) = ∑ x : Fin 4096,
      q (ix3 r ⟨x.val / 128, by omega⟩ ⟨x.val % 128, by omega⟩) * s (ix2 r ⟨x.val / 128, by omega⟩)
        * (w (ix2 n x) * d (ix2 ⟨n.val / 128, by omega⟩ ⟨x.val / 128, by omega⟩)) := by
  unfold k0_pay1
  pointwise

/-! ## The values of the arguments -/

variable (G : ℕ → ℕ → EReal) (v0 v3 : Vec Ideal S12288x4096 .bf16)
  (h0 : ∀ (r : Fin 12288) (j : Fin 4096), v0 (ix2 r j) = G r.val j.val)
  (h3 : ∀ (r : Fin 12288) (j : Fin 4096), v3 (ix2 r j) = G r.val (4096 + j.val))

include h0 h3

theorem pay2_eq (r : Fin 12288) (b : Fin 32) (k : Fin 128) :
    k0_pay2 (F := Ideal) v0 v3 (ix3 r b k) = hid G r.val (128 * b.val + k.val) := by
  unfold k0_pay2
  pointwise
  rw [h0, h3]
  unfold hid
  rw [Nat.mul_comm 128]

theorem pay3_eq (r : Fin 12288) (b : Fin 32) : k0_pay3 (F := Ideal) v0 v3 (ix2 r b) = ex G r.val b.val := by
  rw [pay3_def, refTail_at, refMax_at]
  unfold ex mag
  simp only [pay2_eq G v0 v3 h0 h3]

theorem pay4_eq (r : Fin 12288) (b : Fin 32) : k0_pay4 (F := Ideal) v0 v3 (ix2 r b) = scale G r.val b.val := by
  have e : k0_pay4 (F := Ideal) v0 v3 = exp2 (k0_pay3 (F := Ideal) v0 v3) := rfl
  rw [e, exp2_at, pay3_eq G v0 v3 h0 h3]
  unfold scale
  rfl

theorem pay5_eq (r : Fin 12288) (b : Fin 32) (k : Fin 128) :
    k0_pay5 (F := Ideal) v0 v3 (ix3 r b k) = code G r.val (128 * b.val + k.val) := by
  rw [pay5_def, refCodes_at, pay2_eq G v0 v3 h0 h3, pay3_eq G v0 v3 h0 h3]
  unfold code
  rw [show (128 * b.val + k.val) / 128 = b.val by omega]

theorem pay5_flat (r : Fin 12288) (j : Fin 4096) :
    k0_pay5 (F := Ideal) v0 v3 (ix3 r ⟨j.val / 128, by omega⟩ ⟨j.val % 128, by omega⟩) = code G r.val j.val := by
  rw [pay5_eq G v0 v3 h0 h3]
  exact congrArg _ (Nat.div_add_mod _ _)

theorem pay6_eq (r : Fin 12288) (j : Fin 4096) :
    k0_pay6 (F := Ideal) v0 v3 (ix2 r j) = code G r.val j.val := by
  have e : k0_pay6 (F := Ideal) v0 v3 = shapeCast S12288x4096 (k0_pay5 (F := Ideal) v0 v3) shapeCasts_S12288x32x128_S12288x4096 := rfl
  rw [e, flat_at, pay5_flat G v0 v3 h0 h3]

theorem pay1_eq (W S : ℕ → ℕ → EReal) (w : Vec Ideal S1408x4096 .fp8e4m3) (d : Vec Ideal S11x32 .f32)
    (hw : ∀ (n : Fin 1408) (j : Fin 4096), w (ix2 n j) = W n.val j.val) (hd : ∀ (n : Fin 11) (b : Fin 32), d (ix2 n b) = S n.val b.val)
    (r : Fin 12288) (n : Fin 1408) :
    k0_pay1 (F := Ideal) (k0_pay4 (F := Ideal) v0 v3) (k0_pay5 (F := Ideal) v0 v3) w d (ix2 r n) = sumOf G W S r.val n.val := by
  rw [pay1_at]
  unfold sumOf
  refine Finset.sum_congr rfl fun x _ => ?_
  rw [pay5_flat G v0 v3 h0 h3, pay4_eq G v0 v3 h0 h3, hw, hd]

end Cert.ReferenceIdeal.Values

end
-- ==== Proof.RefRun.lean ====
/-
  The reference's result arrays are the product, the codes and the scales.
-/
module

public import proofs.«01_k».proof.Proof.RefValues
public import Idealize.ShloMosaic.Lib.Claim
public import Idealize.ShloMosaic.Lib.Pipeline.ValueKit

@[expose] public section

noncomputable section

namespace Cert.ReferenceIdeal.Values

open Idealize.ShloMosaic Idealize.ShloMosaic.Pipeline Cert.ReferenceIdeal.Gen Cert.Model

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

/-- The inputs' blocks, the gates and the ups among them. -/
abbrev ga (t : Fin cfg0.N) : Vec Ideal S12288x4096 .bf16 := View.ld (iblk m c 0 t) r0_0
abbrev up (t : Fin cfg0.N) : Vec Ideal S12288x4096 .bf16 := View.ld (iblk m c 0 t) r0_1
abbrev wc (t : Fin cfg0.N) : Vec Ideal S1408x4096 .fp8e4m3 := iblk m c 1 t
abbrev ws (t : Fin cfg0.N) : Vec Ideal S11x32 .f32 := iblk m c 2 t

theorem ga_at (t : Fin cfg0.N) (r : Fin 12288) (j : Fin 4096) : ga m c t (ix2 r j) = matOf (V m c main_v0) r.val j.val := by
  refine Eq.trans ?_ (matOf_at (A := 12288) (B := 8192) (V m c main_v0) r ⟨j.val, by omega⟩)
  show iblk m c 0 t (r0_0.emb (ix2 r j)) = _
  blk_simp [iblk]
  refine congrArg (V m c main_v0) ?_
  blk_ext [idx0]

theorem up_at (t : Fin cfg0.N) (r : Fin 12288) (j : Fin 4096) : up m c t (ix2 r j) = matOf (V m c main_v0) r.val (4096 + j.val) := by
  refine Eq.trans ?_ (matOf_at (A := 12288) (B := 8192) (V m c main_v0) r ⟨4096 + j.val, by omega⟩)
  show iblk m c 0 t (r0_1.emb (ix2 r j)) = _
  blk_simp [iblk]
  refine congrArg (V m c main_v0) ?_
  blk_ext [idx0]

theorem wc_at (t : Fin cfg0.N) (n : Fin 1408) (j : Fin 4096) : wc m c t (ix2 n j) = matOf (m ((c.tc : Thread nD τ).loc main_arg1)) n.val j.val := by
  refine Eq.trans ?_ (matOf_at _ n j)
  show iblk m c 1 t (ix2 n j) = _
  blk_simp [iblk]
  rw [V_main_arg1]
  refine congrArg (m ((c.tc : Thread nD τ).loc main_arg1)) ?_
  blk_ext [idx1]

theorem ws_at (t : Fin cfg0.N) (n : Fin 11) (b : Fin 32) : ws m c t (ix2 n b) = matOf (m ((c.tc : Thread nD τ).loc main_arg2)) n.val b.val := by
  refine Eq.trans ?_ (matOf_at _ n b)
  show iblk m c 2 t (ix2 n b) = _
  blk_simp [iblk]
  rw [V_main_arg2]
  refine congrArg (m ((c.tc : Thread nD τ).loc main_arg2)) ?_
  blk_ext [idx2]

theorem ix2_eta {A B : ℕ} (y : (⟨2, ![A, B]⟩ : Shape).Idx) : y = ix2 (⟨(y 0).val, (y 0).isLt⟩ : Fin A) (⟨(y 1).val, (y 1).isLt⟩ : Fin B) := by
  funext a
  match a with
  | ⟨0, _⟩ => rfl
  | ⟨1, _⟩ => rfl

theorem final_4 : (dats m 0 c).arrAt 4 cfg0.N = resQ (V m c main_v0) := by
  refine (dats m 0 c).arrAt_eq_of_covers 4 _ (by decide +kernel) fun t hf y => ?_
  blk_simp
  rw [after0_4]
  frame_out
  unfold resQ
  blk_simp [idx4]
  refine (congrArg (k0_pay6 (ga m c t) (up m c t)) (ix2_eta y)).trans
    ((pay6_eq _ _ _ (ga_at m c t) (up_at m c t) _ _).trans ?_)
  rfl

theorem final_5 : (dats m 0 c).arrAt 5 cfg0.N = resS (V m c main_v0) := by
  refine (dats m 0 c).arrAt_eq_of_covers 5 _ (by decide +kernel) fun t hf y => ?_
  blk_simp
  rw [after0_5]
  frame_out
  unfold resS k0_pay7
  blk_simp [idx5]
  refine (congrArg (k0_pay4 (ga m c t) (up m c t)) (ix2_eta y)).trans
    ((pay4_eq _ _ _ (ga_at m c t) (up_at m c t) _ _).trans ?_)
  rfl

theorem final_3 : (dats m 0 c).arrAt 3 cfg0.N
    = resY (V m c main_v0) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  unfold resY k0_pay7
  blk_simp [idx3]
  refine (congrArg (k0_pay1 (k0_pay4 (ga m c t) (up m c t)) (k0_pay5 (ga m c t) (up m c t)) (wc m c t) (ws m c t)) (ix2_eta y)).trans
    ((pay1_eq _ _ _ (ga_at m c t) (up_at m c t) _ _ _ _ (wc_at m c t) (ws_at m c t) _ _).trans ?_)
  rfl

/-- The run: the results' values, the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v1_0)
        = resY (V m c main_v0) (m ((c.tc : Thread nD τ).loc main_arg1)) (m ((c.tc : Thread nD τ).loc main_arg2))
      ∧ r.2.mem ((c.tc : Thread nD τ).loc main_v1_1) = resQ (V m c main_v0)
      ∧ r.2.mem ((c.tc : Thread nD τ).loc main_v1_2) = resS (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_3 m c), ((h.1 c).1 4).trans (final_4 m c),
      ((h.1 c).1 5).trans (final_5 m c), h.2 c⟩)
    (θ_run_and (run_main m ρ) (unchanged m ρ))

/-- The gates and ups are the first argument's, reshaped. -/
theorem v0_eq : V m c main_v0 = shapeCast S12288x8192 (m ((c.tc : Thread nD τ).loc main_arg0)) shapeCasts_S2x6144x8192_S12288x8192 := by
  entry_read
  rfl

end Cert.ReferenceIdeal.Values

end
-- ==== Proof.Algebraic.lean ====
/-
  The idealized kernel and the idealized reference end with equal results.
-/
module

public import proofs.«01_k».proof.Defs
public import proofs.«01_k».proof.Proof.KernelValues
public import proofs.«01_k».proof.Proof.RefRun

@[expose] public section

noncomputable section

namespace Cert.Values

open Idealize.ShloMosaic

theorem algebraic : Cert.algebraic_KernelIdeal_ReferenceIdeal (hKernelIdeal := Cert.KernelIdeal.Gen.facts)
    (hReferenceIdeal := Cert.ReferenceIdeal.Gen.facts) := by
  intro m g m' g' _ hagree
  have e (c : Dev Cert.KernelIdeal.nD) : Cert.ReferenceIdeal.Gen.V m' c Cert.ReferenceIdeal.main_v0
      = Cert.KernelIdeal.Gen.V m c Cert.KernelIdeal.main_v0 := by
    rw [Cert.ReferenceIdeal.Values.v0_eq, Cert.KernelIdeal.Run.v0_eq, (hagree c).1]
  refine ⟨_, _, _, Cert.KernelIdeal.Run.values m g, ?_⟩
  refine (θ_run Cert.ReferenceIdeal.defs _ _).mono (fun _ h c => ⟨(h c).1.trans ?_, (h c).2.1.trans ?_, (h c).2.2.1.trans ?_, (h c).2.2.2⟩)
    (Cert.ReferenceIdeal.Values.values m' g')
  · rw [e, (hagree c).2.1, (hagree c).2.2]
  · rw [e]
  · rw [e]

end Cert.Values

end
-- ==== Proof.lean ====
/- The claims about the kernel, proved. -/
module

public import proofs.«01_k».proof.Defs
public import proofs.«01_k».proof.Proof.KernelFrame
public import proofs.«01_k».proof.Proof.KernelIdealFrame
public import proofs.«01_k».proof.Proof.Preserves
public import proofs.«01_k».proof.Proof.Algebraic
public import proofs.«01_k».proof.Proof.Gen.ReferenceIdeal.Frame
public import Idealize.ShloMosaic.Adequacy
public import Idealize.ShloMosaic.Init

@[expose] public section

noncomputable section

namespace Cert.Proof

open Idealize.ShloMosaic

theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ,
    fun m ρ _ => Cert.ReferenceIdeal.Gen.frame m ρ, Cert.Values.preserves, Cert.Values.algebraic⟩

end Cert.Proof

end
